-- ==== Defs.lean ====
def Pre_Amax (m : (ℓ : Loc Cert.Amax.nD Cert.Amax.τ Cert.Amax.sig) → Buf (Elt Bits) ℓ) : Prop :=
  True

def Pre_AmaxIdeal (m : (ℓ : Loc Cert.AmaxIdeal.nD Cert.AmaxIdeal.τ Cert.AmaxIdeal.sig) → Buf (Elt Ideal) ℓ) : Prop :=
  True

def Pre_AmaxRefIdeal (m : (ℓ : Loc Cert.AmaxRefIdeal.nD Cert.AmaxRefIdeal.τ Cert.AmaxRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Ff (m : (ℓ : Loc Cert.Ff.nD Cert.Ff.τ Cert.Ff.sig) → Buf (Elt Bits) ℓ) : Prop :=
  True

def Pre_FfIdeal (m : (ℓ : Loc Cert.FfIdeal.nD Cert.FfIdeal.τ Cert.FfIdeal.sig) → Buf (Elt Ideal) ℓ) : Prop :=
  True

def Pre_FfRefIdeal (m : (ℓ : Loc Cert.FfRefIdeal.nD Cert.FfRefIdeal.τ Cert.FfRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Amax [hAmax : Cert.Amax.Facts] : Prop :=
  ∀ (m : (ℓ : Loc Cert.Amax.nD Cert.Amax.τ Cert.Amax.sig) → Buf (Elt Bits) ℓ) (g : Dev Cert.Amax.nD → PrngReg), Pre_Amax m →
    θ_run (Cert.Amax.defs (F := Bits)) (onTc (τ := Cert.Amax.τ) (Cert.Amax.main (F := Bits))) ⟨m, fun _ => 0, g⟩ (fun r => (∀ c : Dev Cert.Amax.nD,
      r.2.mem ((c.tc : Thread Cert.Amax.nD Cert.Amax.τ).loc Cert.Amax.main_arg0) = m ((c.tc : Thread Cert.Amax.nD Cert.Amax.τ).loc Cert.Amax.main_arg0))
      ∧ r.2.sem = fun _ => 0)

def quiescent_AmaxIdeal [hAmaxIdeal : Cert.AmaxIdeal.Facts] : Prop :=
  ∀ (m : (ℓ : Loc Cert.AmaxIdeal.nD Cert.AmaxIdeal.τ Cert.AmaxIdeal.sig) → Buf (Elt Ideal) ℓ) (g : Dev Cert.AmaxIdeal.nD → PrngReg), Pre_AmaxIdeal m →
    θ_run (Cert.AmaxIdeal.defs (F := Ideal)) (onTc (τ := Cert.AmaxIdeal.τ) (Cert.AmaxIdeal.main (F := Ideal))) ⟨m, fun _ => 0, g⟩ (fun r => (∀ c : Dev Cert.AmaxIdeal.nD,
      r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ r.2.sem = fun _ => 0)

def quiescent_AmaxRefIdeal [hAmaxRefIdeal : Cert.AmaxRefIdeal.Facts] : Prop :=
  ∀ (m : (ℓ : Loc Cert.AmaxRefIdeal.nD Cert.AmaxRefIdeal.τ Cert.AmaxRefIdeal.sig) → Buf (Elt Ideal) ℓ) (g : Dev Cert.AmaxRefIdeal.nD → PrngReg), Pre_AmaxRefIdeal m →
    θ_run (Cert.AmaxRefIdeal.defs (F := Ideal)) (onTc (τ := Cert.AmaxRefIdeal.τ) (Cert.AmaxRefIdeal.main (F := Ideal))) ⟨m, fun _ => 0, g⟩ (fun r => (∀ c : Dev Cert.AmaxRefIdeal.nD,
      r.2.mem ((c.tc : Thread Cert.AmaxRefIdeal.nD Cert.AmaxRefIdeal.τ).loc Cert.AmaxRefIdeal.main_arg0) = m ((c.tc : Thread Cert.AmaxRefIdeal.nD Cert.AmaxRefIdeal.τ).loc Cert.AmaxRefIdeal.main_arg0))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5))
      ∧ r.2.sem = fun _ => 0)

def quiescent_Ff [hFf : Cert.Ff.Facts] : Prop :=
  ∀ (m : (ℓ : Loc Cert.Ff.nD Cert.Ff.τ Cert.Ff.sig) → Buf (Elt Bits) ℓ) (g : Dev Cert.Ff.nD → PrngReg), Pre_Ff m →
    θ_run (Cert.Ff.defs (F := Bits)) (onTc (τ := Cert.Ff.τ) (Cert.Ff.main (F := Bits))) ⟨m, fun _ => 0, g⟩ (fun r => (∀ c : Dev Cert.Ff.nD,
      r.2.mem ((c.tc : Thread Cert.Ff.nD Cert.Ff.τ).loc Cert.Ff.main_arg0) = m ((c.tc : Thread Cert.Ff.nD Cert.Ff.τ).loc Cert.Ff.main_arg0)
      ∧ r.2.mem ((c.tc : Thread Cert.Ff.nD Cert.Ff.τ).loc Cert.Ff.main_arg1) = m ((c.tc : Thread Cert.Ff.nD Cert.Ff.τ).loc Cert.Ff.main_arg1)
      ∧ r.2.mem ((c.tc : Thread Cert.Ff.nD Cert.Ff.τ).loc Cert.Ff.main_arg2) = m ((c.tc : Thread Cert.Ff.nD Cert.Ff.τ).loc Cert.Ff.main_arg2)
      ∧ r.2.mem ((c.tc : Thread Cert.Ff.nD Cert.Ff.τ).loc Cert.Ff.main_arg3) = m ((c.tc : Thread Cert.Ff.nD Cert.Ff.τ).loc Cert.Ff.main_arg3))
      ∧ r.2.sem = fun _ => 0)

def quiescent_FfIdeal [hFfIdeal : Cert.FfIdeal.Facts] : Prop :=
  ∀ (m : (ℓ : Loc Cert.FfIdeal.nD Cert.FfIdeal.τ Cert.FfIdeal.sig) → Buf (Elt Ideal) ℓ) (g : Dev Cert.FfIdeal.nD → PrngReg), Pre_FfIdeal m →
    θ_run (Cert.FfIdeal.defs (F := Ideal)) (onTc (τ := Cert.FfIdeal.τ) (Cert.FfIdeal.main (F := Ideal))) ⟨m, fun _ => 0, g⟩ (fun r => (∀ c : Dev Cert.FfIdeal.nD,
      r.2.mem ((c.tc : Thread Cert.FfIdeal.nD Cert.FfIdeal.τ).loc Cert.FfIdeal.main_arg0) = m ((c.tc : Thread Cert.FfIdeal.nD Cert.FfIdeal.τ).loc Cert.FfIdeal.main_arg0)
      ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
      ∧ r.2.mem ((c.tc : Thread Cert.FfIdeal.nD Cert.FfIdeal.τ).loc Cert.FfIdeal.main_arg2) = m ((c.tc : Thread Cert.FfIdeal.nD Cert.FfIdeal.τ).loc Cert.FfIdeal.main_arg2)
      ∧ r.2.mem ((c.tc : Thread Cert.FfIdeal.nD Cert.FfIdeal.τ).loc Cert.FfIdeal.main_arg3) = m ((c.tc : Thread Cert.FfIdeal.nD Cert.FfIdeal.τ).loc Cert.FfIdeal.main_arg3))
      ∧ r.2.sem = fun _ => 0)

def quiescent_FfRefIdeal [hFfRefIdeal : Cert.FfRefIdeal.Facts] : Prop :=
  ∀ (m : (ℓ : Loc Cert.FfRefIdeal.nD Cert.FfRefIdeal.τ Cert.FfRefIdeal.sig) → Buf (Elt Ideal) ℓ) (g : Dev Cert.FfRefIdeal.nD → PrngReg), Pre_FfRefIdeal m →
    θ_run (Cert.FfRefIdeal.defs (F := Ideal)) (onTc (τ := Cert.FfRefIdeal.τ) (Cert.FfRefIdeal.main (F := Ideal))) ⟨m, fun _ => 0, g⟩ (fun r => (∀ c : Dev Cert.FfRefIdeal.nD,
      r.2.mem ((c.tc : Thread Cert.FfRefIdeal.nD Cert.FfRefIdeal.τ).loc Cert.FfRefIdeal.main_arg0) = m ((c.tc : Thread Cert.FfRefIdeal.nD Cert.FfRefIdeal.τ).loc Cert.FfRefIdeal.main_arg0)
      ∧ r.2.mem ((c.tc : Thread Cert.FfRefIdeal.nD Cert.FfRefIdeal.τ).loc Cert.FfRefIdeal.main_arg1) = m ((c.tc : Thread Cert.FfRefIdeal.nD Cert.FfRefIdeal.τ).loc Cert.FfRefIdeal.main_arg1)
      ∧ r.2.mem ((c.tc : Thread Cert.FfRefIdeal.nD Cert.FfRefIdeal.τ).loc Cert.FfRefIdeal.main_arg2) = m ((c.tc : Thread Cert.FfRefIdeal.nD Cert.FfRefIdeal.τ).loc Cert.FfRefIdeal.main_arg2)
      ∧ r.2.mem ((c.tc : Thread Cert.FfRefIdeal.nD Cert.FfRefIdeal.τ).loc Cert.FfRefIdeal.main_arg3) = m ((c.tc : Thread Cert.FfRefIdeal.nD Cert.FfRefIdeal.τ).loc Cert.FfRefIdeal.main_arg3))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def preserves_Amax_AmaxIdeal : Prop :=
  True

def algebraic_AmaxIdeal_AmaxRefIdeal [hAmaxIdeal : Cert.AmaxIdeal.Facts] [hAmaxRefIdeal : Cert.AmaxRefIdeal.Facts] : Prop :=
  ∀ (m : (ℓ : Loc Cert.AmaxIdeal.nD Cert.AmaxIdeal.τ Cert.AmaxIdeal.sig) → Buf (Elt Ideal) ℓ) (g : Dev Cert.AmaxIdeal.nD → PrngReg)
    (m' : (ℓ : Loc Cert.AmaxRefIdeal.nD Cert.AmaxRefIdeal.τ Cert.AmaxRefIdeal.sig) → Buf (Elt Ideal) ℓ) (g' : Dev Cert.AmaxRefIdeal.nD → PrngReg), Pre_AmaxIdeal m →
    (∀ c : Dev Cert.AmaxIdeal.nD,
      m' ((c.tc : Thread Cert.AmaxRefIdeal.nD Cert.AmaxRefIdeal.τ).loc Cert.AmaxRefIdeal.main_arg0) = m ((c.tc : Thread Cert.AmaxIdeal.nD Cert.AmaxIdeal.τ).loc Cert.AmaxIdeal.main_arg0)) →
    ∃ (v0 : (c : Dev Cert.AmaxIdeal.nD) → Buf (Elt Ideal) ((c.tc : Thread Cert.AmaxIdeal.nD Cert.AmaxIdeal.τ).loc Cert.AmaxIdeal.main_v1)),
      θ_run (Cert.AmaxIdeal.defs (F := Ideal)) (onTc (τ := Cert.AmaxIdeal.τ) (Cert.AmaxIdeal.main (F := Ideal))) ⟨m, fun _ => 0, g⟩ (fun r => ∀ c : Dev Cert.AmaxIdeal.nD,
          r.2.mem ((c.tc : Thread Cert.AmaxIdeal.nD Cert.AmaxIdeal.τ).loc Cert.AmaxIdeal.main_v1) = v0 c
          ∧ r.2.mem ((c.tc : Thread Cert.AmaxIdeal.nD Cert.AmaxIdeal.τ).loc Cert.AmaxIdeal.main_arg0) = m ((c.tc : Thread Cert.AmaxIdeal.nD Cert.AmaxIdeal.τ).loc Cert.AmaxIdeal.main_arg0))
      ∧ θ_run (Cert.AmaxRefIdeal.defs (F := Ideal)) (onTc (τ := Cert.AmaxRefIdeal.τ) (Cert.AmaxRefIdeal.main (F := Ideal))) ⟨m', fun _ => 0, g'⟩ (fun r => ∀ c : Dev Cert.AmaxRefIdeal.nD,
          r.2.mem ((c.tc : Thread Cert.AmaxRefIdeal.nD Cert.AmaxRefIdeal.τ).loc Cert.AmaxRefIdeal.main_v6) = v0 c
          ∧ r.2.mem ((c.tc : Thread Cert.AmaxRefIdeal.nD Cert.AmaxRefIdeal.τ).loc Cert.AmaxRefIdeal.main_arg0) = m' ((c.tc : Thread Cert.AmaxRefIdeal.nD Cert.AmaxRefIdeal.τ).loc Cert.AmaxRefIdeal.main_arg0))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)) →
    ∃ (v0 : (c : Dev Cert.OprojIdeal.nD) → Buf (Elt Ideal) ((c.tc : Thread Cert.OprojIdeal.nD Cert.OprojIdeal.τ).loc Cert.OprojIdeal.main_v4_0)) (v1 : (c : Dev Cert.OprojIdeal.nD) → Buf (Elt Ideal) ((c.tc : Thread Cert.OprojIdeal.nD Cert.OprojIdeal.τ).loc Cert.OprojIdeal.main_v4_1)) (v2 : (c : Dev Cert.OprojIdeal.nD) → Buf (Elt Ideal) ((c.tc : Thread Cert.OprojIdeal.nD Cert.OprojIdeal.τ).loc Cert.OprojIdeal.main_v4_2)) (v3 : (c : Dev Cert.OprojIdeal.nD) → Buf (Elt Ideal) ((c.tc : Thread Cert.OprojIdeal.nD Cert.OprojIdeal.τ).loc Cert.OprojIdeal.main_v4_3)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4_0) = v0 c
          ∧ r.2.mem ((c.tc : Thread Cert.OprojIdeal.nD Cert.OprojIdeal.τ).loc Cert.OprojIdeal.main_v4_1) = v1 c
          ∧ r.2.mem ((c.tc : Thread Cert.OprojIdeal.nD Cert.OprojIdeal.τ).loc Cert.OprojIdeal.main_v4_2) = v2 c
          ∧ r.2.mem ((c.tc : Thread Cert.OprojIdeal.nD Cert.OprojIdeal.τ).loc Cert.OprojIdeal.main_v4_3) = v3 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v4_0) = v0 c
          ∧ r.2.mem ((c.tc : Thread Cert.OprojRefIdeal.nD Cert.OprojRefIdeal.τ).loc Cert.OprojRefIdeal.main_v4_1) = v1 c
          ∧ r.2.mem ((c.tc : Thread Cert.OprojRefIdeal.nD Cert.OprojRefIdeal.τ).loc Cert.OprojRefIdeal.main_v4_2) = v2 c
          ∧ r.2.mem ((c.tc : Thread Cert.OprojRefIdeal.nD Cert.OprojRefIdeal.τ).loc Cert.OprojRefIdeal.main_v4_3) = v3 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5))

def preserves_Ff_FfIdeal : Prop :=
  True

def algebraic_FfIdeal_FfRefIdeal [hFfIdeal : Cert.FfIdeal.Facts] [hFfRefIdeal : Cert.FfRefIdeal.Facts] : Prop :=
  ∀ (m : (ℓ : Loc Cert.FfIdeal.nD Cert.FfIdeal.τ Cert.FfIdeal.sig) → Buf (Elt Ideal) ℓ) (g : Dev Cert.FfIdeal.nD → PrngReg)
    (m' : (ℓ : Loc Cert.FfRefIdeal.nD Cert.FfRefIdeal.τ Cert.FfRefIdeal.sig) → Buf (Elt Ideal) ℓ) (g' : Dev Cert.FfRefIdeal.nD → PrngReg), Pre_FfIdeal m →
    (∀ c : Dev Cert.FfIdeal.nD,
      m' ((c.tc : Thread Cert.FfRefIdeal.nD Cert.FfRefIdeal.τ).loc Cert.FfRefIdeal.main_arg0) = m ((c.tc : Thread Cert.FfIdeal.nD Cert.FfIdeal.τ).loc Cert.FfIdeal.main_arg0)
      ∧ m' ((c.tc : Thread Cert.FfRefIdeal.nD Cert.FfRefIdeal.τ).loc Cert.FfRefIdeal.main_arg1) = m ((c.tc : Thread Cert.FfIdeal.nD Cert.FfIdeal.τ).loc Cert.FfIdeal.main_arg1)
      ∧ m' ((c.tc : Thread Cert.FfRefIdeal.nD Cert.FfRefIdeal.τ).loc Cert.FfRefIdeal.main_arg2) = m ((c.tc : Thread Cert.FfIdeal.nD Cert.FfIdeal.τ).loc Cert.FfIdeal.main_arg2)
      ∧ m' ((c.tc : Thread Cert.FfRefIdeal.nD Cert.FfRefIdeal.τ).loc Cert.FfRefIdeal.main_arg3) = m ((c.tc : Thread Cert.FfIdeal.nD Cert.FfIdeal.τ).loc Cert.FfIdeal.main_arg3)) →
    ∃ (v0 : (c : Dev Cert.FfIdeal.nD) → Buf (Elt Ideal) ((c.tc : Thread Cert.FfIdeal.nD Cert.FfIdeal.τ).loc Cert.FfIdeal.main_v2_0)) (v1 : (c : Dev Cert.FfIdeal.nD) → Buf (Elt Ideal) ((c.tc : Thread Cert.FfIdeal.nD Cert.FfIdeal.τ).loc Cert.FfIdeal.main_v2_1)) (v2 : (c : Dev Cert.FfIdeal.nD) → Buf (Elt Ideal) ((c.tc : Thread Cert.FfIdeal.nD Cert.FfIdeal.τ).loc Cert.FfIdeal.main_v2_2)),
      θ_run (Cert.FfIdeal.defs (F := Ideal)) (onTc (τ := Cert.FfIdeal.τ) (Cert.FfIdeal.main (F := Ideal))) ⟨m, fun _ => 0, g⟩ (fun r => ∀ c : Dev Cert.FfIdeal.nD,
          r.2.mem ((c.tc : Thread Cert.FfIdeal.nD Cert.FfIdeal.τ).loc Cert.FfIdeal.main_v2_0) = v0 c
          ∧ r.2.mem ((c.tc : Thread Cert.FfIdeal.nD Cert.FfIdeal.τ).loc Cert.FfIdeal.main_v2_1) = v1 c
          ∧ r.2.mem ((c.tc : Thread Cert.FfIdeal.nD Cert.FfIdeal.τ).loc Cert.FfIdeal.main_v2_2) = v2 c
          ∧ r.2.mem ((c.tc : Thread Cert.FfIdeal.nD Cert.FfIdeal.τ).loc Cert.FfIdeal.main_arg0) = m ((c.tc : Thread Cert.FfIdeal.nD Cert.FfIdeal.τ).loc Cert.FfIdeal.main_arg0)
          ∧ r.2.mem ((c.tc : Thread Cert.FfIdeal.nD Cert.FfIdeal.τ).loc Cert.FfIdeal.main_arg1) = m ((c.tc : Thread Cert.FfIdeal.nD Cert.FfIdeal.τ).loc Cert.FfIdeal.main_arg1)
          ∧ r.2.mem ((c.tc : Thread Cert.FfIdeal.nD Cert.FfIdeal.τ).loc Cert.FfIdeal.main_arg2) = m ((c.tc : Thread Cert.FfIdeal.nD Cert.FfIdeal.τ).loc Cert.FfIdeal.main_arg2)
          ∧ r.2.mem ((c.tc : Thread Cert.FfIdeal.nD Cert.FfIdeal.τ).loc Cert.FfIdeal.main_arg3) = m ((c.tc : Thread Cert.FfIdeal.nD Cert.FfIdeal.τ).loc Cert.FfIdeal.main_arg3))
      ∧ θ_run (Cert.FfRefIdeal.defs (F := Ideal)) (onTc (τ := Cert.FfRefIdeal.τ) (Cert.FfRefIdeal.main (F := Ideal))) ⟨m', fun _ => 0, g'⟩ (fun r => ∀ c : Dev Cert.FfRefIdeal.nD,
          r.2.mem ((c.tc : Thread Cert.FfRefIdeal.nD Cert.FfRefIdeal.τ).loc Cert.FfRefIdeal.main_v1_0) = v0 c
          ∧ r.2.mem ((c.tc : Thread Cert.FfRefIdeal.nD Cert.FfRefIdeal.τ).loc Cert.FfRefIdeal.main_v1_1) = v1 c
          ∧ r.2.mem ((c.tc : Thread Cert.FfRefIdeal.nD Cert.FfRefIdeal.τ).loc Cert.FfRefIdeal.main_v1_2) = v2 c
          ∧ r.2.mem ((c.tc : Thread Cert.FfRefIdeal.nD Cert.FfRefIdeal.τ).loc Cert.FfRefIdeal.main_arg0) = m' ((c.tc : Thread Cert.FfRefIdeal.nD Cert.FfRefIdeal.τ).loc Cert.FfRefIdeal.main_arg0)
          ∧ r.2.mem ((c.tc : Thread Cert.FfRefIdeal.nD Cert.FfRefIdeal.τ).loc Cert.FfRefIdeal.main_arg1) = m' ((c.tc : Thread Cert.FfRefIdeal.nD Cert.FfRefIdeal.τ).loc Cert.FfRefIdeal.main_arg1)
          ∧ r.2.mem ((c.tc : Thread Cert.FfRefIdeal.nD Cert.FfRefIdeal.τ).loc Cert.FfRefIdeal.main_arg2) = m' ((c.tc : Thread Cert.FfRefIdeal.nD Cert.FfRefIdeal.τ).loc Cert.FfRefIdeal.main_arg2)
          ∧ r.2.mem ((c.tc : Thread Cert.FfRefIdeal.nD Cert.FfRefIdeal.τ).loc Cert.FfRefIdeal.main_arg3) = m' ((c.tc : Thread Cert.FfRefIdeal.nD Cert.FfRefIdeal.τ).loc Cert.FfRefIdeal.main_arg3))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v2_0)) (v1 : (c : Dev Cert.DownIdeal.nD) → Buf (Elt Ideal) ((c.tc : Thread Cert.DownIdeal.nD Cert.DownIdeal.τ).loc Cert.DownIdeal.main_v2_1)) (v2 : (c : Dev Cert.DownIdeal.nD) → Buf (Elt Ideal) ((c.tc : Thread Cert.DownIdeal.nD Cert.DownIdeal.τ).loc Cert.DownIdeal.main_v2_2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2_0) = v0 c
          ∧ r.2.mem ((c.tc : Thread Cert.DownIdeal.nD Cert.DownIdeal.τ).loc Cert.DownIdeal.main_v2_1) = v1 c
          ∧ r.2.mem ((c.tc : Thread Cert.DownIdeal.nD Cert.DownIdeal.τ).loc Cert.DownIdeal.main_v2_2) = v2 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2_0) = v0 c
          ∧ r.2.mem ((c.tc : Thread Cert.DownRefIdeal.nD Cert.DownRefIdeal.τ).loc Cert.DownRefIdeal.main_v2_1) = v1 c
          ∧ r.2.mem ((c.tc : Thread Cert.DownRefIdeal.nD Cert.DownRefIdeal.τ).loc Cert.DownRefIdeal.main_v2_2) = v2 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def Claim : Prop :=
  ∃ (hAmax : Cert.Amax.Facts) (hAmaxIdeal : Cert.AmaxIdeal.Facts) (hAmaxRefIdeal : Cert.AmaxRefIdeal.Facts) (hOproj : Cert.Oproj.Facts) (hOprojIdeal : Cert.OprojIdeal.Facts) (hOprojRefIdeal : Cert.OprojRefIdeal.Facts) (hFf : Cert.Ff.Facts) (hFfIdeal : Cert.FfIdeal.Facts) (hFfRefIdeal : Cert.FfRefIdeal.Facts) (hDown : Cert.Down.Facts) (hDownIdeal : Cert.DownIdeal.Facts) (hDownRefIdeal : Cert.DownRefIdeal.Facts),
    quiescent_Amax (hAmax := hAmax)
    ∧ quiescent_AmaxIdeal (hAmaxIdeal := hAmaxIdeal)
    ∧ quiescent_AmaxRefIdeal (hAmaxRefIdeal := hAmaxRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Ff (hFf := hFf)
    ∧ quiescent_FfIdeal (hFfIdeal := hFfIdeal)
    ∧ quiescent_FfRefIdeal (hFfRefIdeal := hFfRefIdeal)
    ∧ quiescent_Down (hDown := hDown)
    ∧ quiescent_DownIdeal (hDownIdeal := hDownIdeal)
    ∧ quiescent_DownRefIdeal (hDownRefIdeal := hDownRefIdeal)
    ∧ preserves_Amax_AmaxIdeal
    ∧ algebraic_AmaxIdeal_AmaxRefIdeal (hAmaxIdeal := hAmaxIdeal) (hAmaxRefIdeal := hAmaxRefIdeal)
    ∧ preserves_Oproj_OprojIdeal
    ∧ algebraic_OprojIdeal_OprojRefIdeal (hOprojIdeal := hOprojIdeal) (hOprojRefIdeal := hOprojRefIdeal)
    ∧ preserves_Ff_FfIdeal
    ∧ algebraic_FfIdeal_FfRefIdeal (hFfIdeal := hFfIdeal) (hFfRefIdeal := hFfRefIdeal)
    ∧ preserves_Down_DownIdeal
    ∧ algebraic_DownIdeal_DownRefIdeal (hDownIdeal := hDownIdeal) (hDownRefIdeal := hDownRefIdeal)
-- ==== Amax.lean ====
abbrev S3x7168x2048 : Shape := ⟨3, ![3, 7168, 2048]⟩
abbrev S21504x2048 : Shape := ⟨2, ![21504, 2048]⟩
abbrev S8x128 : Shape := ⟨2, ![8, 128]⟩
abbrev S1024x2048 : Shape := ⟨2, ![1024, 2048]⟩
abbrev S128x8x2048 : Shape := ⟨3, ![128, 8, 2048]⟩
abbrev S8x2048 : Shape := ⟨2, ![8, 2048]⟩
abbrev S128 : Shape := ⟨1, ![128]⟩
abbrev S1x128 : Shape := ⟨2, ![1, 128]⟩
abbrev S1 : Shape := ⟨1, ![1]⟩
abbrev S1x1 : Shape := ⟨2, ![1, 1]⟩

abbrev nBuf : Space → Nat
  | .hbm => 3
  | .vmem => 4
  | .smem => 0
  | _ => 0

abbrev bufTy : (tb : Table) → Fin (tcTables nBuf tb) → BufTy
  | .hbm, ⟨0, _⟩ => ⟨S3x7168x2048, .bf16⟩
  | .hbm, ⟨1, _⟩ => ⟨S21504x2048, .bf16⟩
  | .hbm, ⟨2, _⟩ => ⟨S8x128, .f32⟩
  | .local _ .vmem, ⟨0, _⟩ => ⟨S1024x2048, .bf16⟩
  | .local _ .vmem, ⟨1, _⟩ => ⟨S1024x2048, .bf16⟩
  | .local _ .vmem, ⟨2, _⟩ => ⟨S8x128, .f32⟩
  | .local _ .vmem, ⟨3, _⟩ => ⟨S8x128, .f32⟩
  | _, _ => ⟨S3x7168x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![21], ![false]⟩

def k0_cond2 (i : grid0.Coords) : BitVec 1 :=
  let arg0 : BitVec 32 := BitVec.ofNat 32 (i 0).val
  let c20_i32 : BitVec 32 := 20#32
  let v45 : BitVec 1 := Scalar.cmpi .eq arg0 c20_i32
  let v46 : BitVec 32 := Scalar.extui v45
  let c0_i32_6 : BitVec 32 := 0#32
  let v47 : BitVec 1 := Scalar.cmpi .ne v46 c0_i32_6
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== AmaxRefIdeal.lean ====
abbrev S3x7168x2048 : Shape := ⟨3, ![3, 7168, 2048]⟩
abbrev S_ : Shape := ⟨0, ![]⟩
abbrev S8x128 : Shape := ⟨2, ![8, 128]⟩

abbrev nBuf : Space → Nat
  | .hbm => 13
  | .vmem => 0
  | .smem => 0
  | _ => 0

abbrev bufTy : (tb : Table) → Fin (tcTables nBuf tb) → BufTy
  | .hbm, ⟨0, _⟩ => ⟨S3x7168x2048, .bf16⟩
  | .hbm, ⟨1, _⟩ => ⟨S3x7168x2048, .f32⟩
  | .hbm, ⟨2, _⟩ => ⟨S3x7168x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .i1⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x128, .f32⟩
  | _, _ => ⟨S3x7168x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_cst_1 : Ref sig .tc := ⟨.hbm, 7, rfl⟩
abbrev main_v4 : Ref sig .tc := ⟨.hbm, 8, rfl⟩
abbrev main_cst_2 : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== Oproj.lean ====
abbrev S21504x2048 : Shape := ⟨2, ![21504, 2048]⟩
abbrev S8x128 : Shape := ⟨2, ![8, 128]⟩
abbrev S3x7168x2048 : Shape := ⟨3, ![3, 7168, 2048]⟩
abbrev S16x128x2048 : Shape := ⟨3, ![16, 128, 2048]⟩
abbrev S_ : Shape := ⟨0, ![]⟩
abbrev S2048 : Shape := ⟨1, ![2048]⟩
abbrev S2048x2048 : Shape := ⟨2, ![2048, 2048]⟩
abbrev S1 : Shape := ⟨1, ![1]⟩
abbrev S1x2048 : Shape := ⟨2, ![1, 2048]⟩
abbrev S21504x16x128 : Shape := ⟨3, ![21504, 16, 128]⟩
abbrev S512x2048 : Shape := ⟨2, ![512, 2048]⟩
abbrev S512x16x128 : Shape := ⟨3, ![512, 16, 128]⟩
abbrev S1x1 : Shape := ⟨2, ![1, 1]⟩
abbrev S2048x512 : Shape := ⟨2, ![2048, 512]⟩
abbrev S512x512 : Shape := ⟨2, ![512, 512]⟩
abbrev S128x2048 : Shape := ⟨2, ![128, 2048]⟩
abbrev S128 : Shape := ⟨1, ![128]⟩
abbrev S128x1 : Shape := ⟨2, ![128, 1]⟩
abbrev S16x8x2048 : Shape := ⟨3, ![16, 8, 2048]⟩
abbrev S8x2048 : Shape := ⟨2, ![8, 2048]⟩
abbrev S1x128 : Shape := ⟨2, ![1, 128]⟩

abbrev nBuf : Space → Nat
  | .hbm => 14
  | .vmem => 17
  | .smem => 1
  | _ => 0

abbrev bufTy : (tb : Table) → Fin (tcTables nBuf tb) → BufTy
  | .hbm, ⟨0, _⟩ => ⟨S21504x2048, .f32⟩
  | .hbm, ⟨1, _⟩ => ⟨S8x128, .f32⟩
  | .hbm, ⟨2, _⟩ => ⟨S3x7168x2048, .bf16⟩
  | .hbm, ⟨3, _⟩ => ⟨S16x128x2048, .fp8e4m3⟩
  | .hbm, ⟨4, _⟩ => ⟨S_, .f32⟩
  | .hbm, ⟨5, _⟩ => ⟨S2048, .f32⟩
  | .hbm, ⟨6, _⟩ => ⟨S21504x2048, .bf16⟩
  | .hbm, ⟨7, _⟩ => ⟨S2048x2048, .fp8e4m3⟩
  | .hbm, ⟨8, _⟩ => ⟨S1, .f32⟩
  | .hbm, ⟨9, _⟩ => ⟨S1x2048, .f32⟩
  | .hbm, ⟨10, _⟩ => ⟨S21504x16x128, .fp8e4m3⟩
  | .hbm, ⟨11, _⟩ => ⟨S21504x2048, .bf16⟩
  | .hbm, ⟨12, _⟩ => ⟨S21504x2048, .f32⟩
  | .hbm, ⟨13, _⟩ => ⟨S8x128, .f32⟩
  | .local _ .vmem, ⟨0, _⟩ => ⟨S8x128, .f32⟩
  | .local _ .vmem, ⟨1, _⟩ => ⟨S512x2048, .f32⟩
  | .local _ .vmem, ⟨2, _⟩ => ⟨S512x2048, .f32⟩
  | .local _ .vmem, ⟨3, _⟩ => ⟨S512x2048, .bf16⟩
  | .local _ .vmem, ⟨4, _⟩ => ⟨S512x2048, .bf16⟩
  | .local _ .vmem, ⟨5, _⟩ => ⟨S2048x2048, .fp8e4m3⟩
  | .local _ .vmem, ⟨6, _⟩ => ⟨S1x2048, .f32⟩
  | .local _ .vmem, ⟨7, _⟩ => ⟨S512x16x128, .fp8e4m3⟩
  | .local _ .vmem, ⟨8, _⟩ => ⟨S512x16x128, .fp8e4m3⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S8x128, .f32⟩
  | .local _ .vmem, ⟨14, _⟩ => ⟨S512x2048, .fp8e4m3⟩
  | .local _ .vmem, ⟨15, _⟩ => ⟨S512x2048, .f32⟩
  | .local _ .vmem, ⟨16, _⟩ => ⟨S8x128, .f32⟩
  | .local _ .smem, ⟨0, _⟩ => ⟨S1, .f32⟩
  | _, _ => ⟨S21504x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14

abbrev nD : Nat := 1
abbrev τ : Topo := Topo.v7x

variable {F : FTy → Type} [FloatOps F]

abbrev grid0 : Pipeline.Grid := ⟨1, ![42], ![false]⟩

def k0_cond2 (i : grid0.Coords) : BitVec 1 :=
  let arg0 : BitVec 32 := BitVec.ofNat 32 (i 0).val
  let c41_i32 : BitVec 32 := 41#32
  let v289 : BitVec 1 := Scalar.cmpi .eq arg0 c41_i32
  let v290 : BitVec 32 := Scalar.extui v289
  let c0_i32_95 : BitVec 32 := 0#32
  let v291 : BitVec 1 := Scalar.cmpi .ne v290 c0_i32_95
  v291

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x16x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OprojRefIdeal.lean ====
abbrev S21504x2048 : Shape := ⟨2, ![21504, 2048]⟩
abbrev S8x128 : Shape := ⟨2, ![8, 128]⟩
abbrev S3x7168x2048 : Shape := ⟨3, ![3, 7168, 2048]⟩
abbrev S16x128x2048 : Shape := ⟨3, ![16, 128, 2048]⟩
abbrev S_ : Shape := ⟨0, ![]⟩
abbrev S2048 : Shape := ⟨1, ![2048]⟩
abbrev S2048x2048 : Shape := ⟨2, ![2048, 2048]⟩
abbrev S1 : Shape := ⟨1, ![1]⟩
abbrev S1x2048 : Shape := ⟨2, ![1, 2048]⟩
abbrev S21504x16x128 : Shape := ⟨3, ![21504, 16, 128]⟩
abbrev S1x1 : Shape := ⟨2, ![1, 1]⟩
abbrev S21504 : Shape := ⟨1, ![21504]⟩
abbrev S21504x1 : Shape := ⟨2, ![21504, 1]⟩
abbrev S1x21504x2048 : Shape := ⟨3, ![1, 21504, 2048]⟩
abbrev S1x1x1 : Shape := ⟨3, ![1, 1, 1]⟩

abbrev nBuf : Space → Nat
  | .hbm => 14
  | .vmem => 9
  | .smem => 1
  | _ => 0

abbrev bufTy : (tb : Table) → Fin (tcTables nBuf tb) → BufTy
  | .hbm, ⟨0, _⟩ => ⟨S21504x2048, .f32⟩
  | .hbm, ⟨1, _⟩ => ⟨S8x128, .f32⟩
  | .hbm, ⟨2, _⟩ => ⟨S3x7168x2048, .bf16⟩
  | .hbm, ⟨3, _⟩ => ⟨S16x128x2048, .fp8e4m3⟩
  | .hbm, ⟨4, _⟩ => ⟨S_, .f32⟩
  | .hbm, ⟨5, _⟩ => ⟨S2048, .f32⟩
  | .hbm, ⟨6, _⟩ => ⟨S21504x2048, .bf16⟩
  | .hbm, ⟨7, _⟩ => ⟨S2048x2048, .fp8e4m3⟩
  | .hbm, ⟨8, _⟩ => ⟨S1, .f32⟩
  | .hbm, ⟨9, _⟩ => ⟨S1x2048, .f32⟩
  | .hbm, ⟨10, _⟩ => ⟨S21504x16x128, .fp8e4m3⟩
  | .hbm, ⟨11, _⟩ => ⟨S21504x2048, .bf16⟩
  | .hbm, ⟨12, _⟩ => ⟨S21504x2048, .f32⟩
  | .hbm, ⟨13, _⟩ => ⟨S8x128, .f32⟩
  | .local _ .vmem, ⟨0, _⟩ => ⟨S21504x2048, .f32⟩
  | .local _ .vmem, ⟨1, _⟩ => ⟨S8x128, .f32⟩
  | .local _ .vmem, ⟨2, _⟩ => ⟨S21504x2048, .bf16⟩
  | .local _ .vmem, ⟨3, _⟩ => ⟨S2048x2048, .fp8e4m3⟩
  | .local _ .vmem, ⟨4, _⟩ => ⟨S1x2048, .f32⟩
  | .local _ .vmem, ⟨5, _⟩ => ⟨S21504x16x128, .fp8e4m3⟩
  | .local _ .vmem, ⟨6, _⟩ => ⟨S21504x2048, .bf16⟩
  | .local _ .vmem, ⟨7, _⟩ => ⟨S21504x2048, .f32⟩
  | .local _ .vmem, ⟨8, _⟩ => ⟨S8x128, .f32⟩
  | .local _ .smem, ⟨0, _⟩ => ⟨S1, .f32⟩
  | _, _ => ⟨S21504x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S21504x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S21504x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S21504x16x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S21504x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S21504x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Ff.lean ====
abbrev S21504x2048 : Shape := ⟨2, ![21504, 2048]⟩
abbrev S8x128 : Shape := ⟨2, ![8, 128]⟩
abbrev S2048x2x8192 : Shape := ⟨3, ![2048, 2, 8192]⟩
abbrev S_ : Shape := ⟨0, ![]⟩
abbrev S2x2048x8192 : Shape := ⟨3, ![2, 2048, 8192]⟩
abbrev S1 : Shape := ⟨1, ![1]⟩
abbrev S21504x8192 : Shape := ⟨2, ![21504, 8192]⟩
abbrev S256x2048 : Shape := ⟨2, ![256, 2048]⟩
abbrev S256x8192 : Shape := ⟨2, ![256, 8192]⟩
abbrev S1x1 : Shape := ⟨2, ![1, 1]⟩
abbrev S1x2048x256 : Shape := ⟨3, ![1, 2048, 256]⟩
abbrev S2048x256 : Shape := ⟨2, ![2048, 256]⟩
abbrev S256x256 : Shape := ⟨2, ![256, 256]⟩
abbrev S32x8x256 : Shape := ⟨3, ![32, 8, 256]⟩
abbrev S8x256 : Shape := ⟨2, ![8, 256]⟩
abbrev S128 : Shape := ⟨1, ![128]⟩
abbrev S1x128 : Shape := ⟨2, ![1, 128]⟩

abbrev nBuf : Space → Nat
  | .hbm => 9
  | .vmem => 10
  | .smem => 1
  | _ => 0

abbrev bufTy : (tb : Table) → Fin (tcTables nBuf tb) → BufTy
  | .hbm, ⟨0, _⟩ => ⟨S21504x2048, .f32⟩
  | .hbm, ⟨1, _⟩ => ⟨S8x128, .f32⟩
  | .hbm, ⟨2, _⟩ => ⟨S2048x2x8192, .fp8e4m3⟩
  | .hbm, ⟨3, _⟩ => ⟨S_, .f32⟩
  | .hbm, ⟨4, _⟩ => ⟨S2x2048x8192, .fp8e4m3⟩
  | .hbm, ⟨5, _⟩ => ⟨S1, .f32⟩
  | .hbm, ⟨6, _⟩ => ⟨S21504x2048, .fp8e4m3⟩
  | .hbm, ⟨7, _⟩ => ⟨S21504x8192, .f32⟩
  | .hbm, ⟨8, _⟩ => ⟨S8x128, .f32⟩
  | .local _ .vmem, ⟨0, _⟩ => ⟨S8x128, .f32⟩
  | .local _ .vmem, ⟨1, _⟩ => ⟨S256x2048, .f32⟩
  | .local _ .vmem, ⟨2, _⟩ => ⟨S256x2048, .f32⟩
  | .local _ .vmem, ⟨3, _⟩ => ⟨S2x2048x8192, .fp8e4m3⟩
  | .local _ .vmem, ⟨4, _⟩ => ⟨S256x2048, .fp8e4m3⟩
  | .local _ .vmem, ⟨5, _⟩ => ⟨S256x2048, .fp8e4m3⟩
  | .local _ .vmem, ⟨6, _⟩ => ⟨S256x8192, .f32⟩
  | .local _ .vmem, ⟨7, _⟩ => ⟨S256x8192, .f32⟩
  | .local _ .vmem, ⟨8, _⟩ => ⟨S8x128, .f32⟩
  | .local _ .vmem, ⟨9, _⟩ => ⟨S8x128, .f32⟩
  | .local _ .smem, ⟨0, _⟩ => ⟨S1, .f32⟩
  | _, _ => ⟨S21504x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![84], ![false]⟩

def k0_cond2 (i : grid0.Coords) : BitVec 1 :=
  let arg0 : BitVec 32 := BitVec.ofNat 32 (i 0).val
  let c83_i32 : BitVec 32 := 83#32
  let v820 : BitVec 1 := Scalar.cmpi .eq arg0 c83_i32
  let v821 : BitVec 32 := Scalar.extui v820
  let c0_i32_460 : BitVec 32 := 0#32
  let v822 : BitVec 1 := Scalar.cmpi .ne v821 c0_i32_460
  v822

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x2048x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== FfRefIdeal.lean ====
abbrev S21504x2048 : Shape := ⟨2, ![21504, 2048]⟩
abbrev S8x128 : Shape := ⟨2, ![8, 128]⟩
abbrev S2048x2x8192 : Shape := ⟨3, ![2048, 2, 8192]⟩
abbrev S_ : Shape := ⟨0, ![]⟩
abbrev S1 : Shape := ⟨1, ![1]⟩
abbrev S21504x8192 : Shape := ⟨2, ![21504, 8192]⟩
abbrev S1x1 : Shape := ⟨2, ![1, 1]⟩
abbrev S2048x1x8192 : Shape := ⟨3, ![2048, 1, 8192]⟩
abbrev S2048x8192 : Shape := ⟨2, ![2048, 8192]⟩
abbrev S1x21504x8192 : Shape := ⟨3, ![1, 21504, 8192]⟩
abbrev S1x1x1 : Shape := ⟨3, ![1, 1, 1]⟩

abbrev nBuf : Space → Nat
  | .hbm => 8
  | .vmem => 6
  | .smem => 1
  | _ => 0

abbrev bufTy : (tb : Table) → Fin (tcTables nBuf tb) → BufTy
  | .hbm, ⟨0, _⟩ => ⟨S21504x2048, .f32⟩
  | .hbm, ⟨1, _⟩ => ⟨S8x128, .f32⟩
  | .hbm, ⟨2, _⟩ => ⟨S2048x2x8192, .fp8e4m3⟩
  | .hbm, ⟨3, _⟩ => ⟨S_, .f32⟩
  | .hbm, ⟨4, _⟩ => ⟨S1, .f32⟩
  | .hbm, ⟨5, _⟩ => ⟨S21504x2048, .fp8e4m3⟩
  | .hbm, ⟨6, _⟩ => ⟨S21504x8192, .f32⟩
  | .hbm, ⟨7, _⟩ => ⟨S8x128, .f32⟩
  | .local _ .vmem, ⟨0, _⟩ => ⟨S21504x2048, .f32⟩
  | .local _ .vmem, ⟨1, _⟩ => ⟨S8x128, .f32⟩
  | .local _ .vmem, ⟨2, _⟩ => ⟨S2048x2x8192, .fp8e4m3⟩
  | .local _ .vmem, ⟨3, _⟩ => ⟨S21504x2048, .fp8e4m3⟩
  | .local _ .vmem, ⟨4, _⟩ => ⟨S21504x8192, .f32⟩
  | .local _ .vmem, ⟨5, _⟩ => ⟨S8x128, .f32⟩
  | .local _ .smem, ⟨0, _⟩ => ⟨S1, .f32⟩
  | _, _ => ⟨S21504x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S21504x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S21504x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S21504x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Down.lean ====
abbrev S21504x8192 : Shape := ⟨2, ![21504, 8192]⟩
abbrev S8x128 : Shape := ⟨2, ![8, 128]⟩
abbrev S21504x2048 : Shape := ⟨2, ![21504, 2048]⟩
abbrev S8192x2048 : Shape := ⟨2, ![8192, 2048]⟩
abbrev S_ : Shape := ⟨0, ![]⟩
abbrev S2048 : Shape := ⟨1, ![2048]⟩
abbrev S1 : Shape := ⟨1, ![1]⟩
abbrev S1x2048 : Shape := ⟨2, ![1, 2048]⟩
abbrev S256x8192 : Shape := ⟨2, ![256, 8192]⟩
abbrev S256x2048 : Shape := ⟨2, ![256, 2048]⟩
abbrev S1x1 : Shape := ⟨2, ![1, 1]⟩
abbrev S8192x512 : Shape := ⟨2, ![8192, 512]⟩
abbrev S256x512 : Shape := ⟨2, ![256, 512]⟩
abbrev S128x2048 : Shape := ⟨2, ![128, 2048]⟩
abbrev S128 : Shape := ⟨1, ![128]⟩
abbrev S128x1 : Shape := ⟨2, ![128, 1]⟩

abbrev nBuf : Space → Nat
  | .hbm => 11
  | .vmem => 14
  | .smem => 1
  | _ => 0

abbrev bufTy : (tb : Table) → Fin (tcTables nBuf tb) → BufTy
  | .hbm, ⟨0, _⟩ => ⟨S21504x8192, .f32⟩
  | .hbm, ⟨1, _⟩ => ⟨S8x128, .f32⟩
  | .hbm, ⟨2, _⟩ => ⟨S21504x2048, .f32⟩
  | .hbm, ⟨3, _⟩ => ⟨S8192x2048, .fp8e4m3⟩
  | .hbm, ⟨4, _⟩ => ⟨S_, .f32⟩
  | .hbm, ⟨5, _⟩ => ⟨S2048, .f32⟩
  | .hbm, ⟨6, _⟩ => ⟨S1, .f32⟩
  | .hbm, ⟨7, _⟩ => ⟨S1x2048, .f32⟩
  | .hbm, ⟨8, _⟩ => ⟨S21504x8192, .fp8e4m3⟩
  | .hbm, ⟨9, _⟩ => ⟨S21504x2048, .bf16⟩
  | .hbm, ⟨10, _⟩ => ⟨S21504x2048, .bf16⟩
  | .local _ .vmem, ⟨0, _⟩ => ⟨S8x128, .f32⟩
  | .local _ .vmem, ⟨1, _⟩ => ⟨S256x8192, .f32⟩
  | .local _ .vmem, ⟨2, _⟩ => ⟨S256x8192, .f32⟩
  | .local _ .vmem, ⟨3, _⟩ => ⟨S256x2048, .f32⟩
  | .local _ .vmem, ⟨4, _⟩ => ⟨S256x2048, .f32⟩
  | .local _ .vmem, ⟨5, _⟩ => ⟨S8192x2048, .fp8e4m3⟩
  | .local _ .vmem, ⟨6, _⟩ => ⟨S1x2048, .f32⟩
  | .local _ .vmem, ⟨7, _⟩ => ⟨S256x8192, .fp8e4m3⟩
  | .local _ .vmem, ⟨8, _⟩ => ⟨S256x8192, .fp8e4m3⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .smem, ⟨0, _⟩ => ⟨S1, .f32⟩
  | _, _ => ⟨S21504x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![84], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8192x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x8192 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownRefIdeal.lean ====
abbrev S21504x8192 : Shape := ⟨2, ![21504, 8192]⟩
abbrev S8x128 : Shape := ⟨2, ![8, 128]⟩
abbrev S21504x2048 : Shape := ⟨2, ![21504, 2048]⟩
abbrev S8192x2048 : Shape := ⟨2, ![8192, 2048]⟩
abbrev S_ : Shape := ⟨0, ![]⟩
abbrev S2048 : Shape := ⟨1, ![2048]⟩
abbrev S1 : Shape := ⟨1, ![1]⟩
abbrev S1x2048 : Shape := ⟨2, ![1, 2048]⟩
abbrev S1x1 : Shape := ⟨2, ![1, 1]⟩
abbrev S21504 : Shape := ⟨1, ![21504]⟩
abbrev S21504x1 : Shape := ⟨2, ![21504, 1]⟩

abbrev nBuf : Space → Nat
  | .hbm => 11
  | .vmem => 8
  | .smem => 1
  | _ => 0

abbrev bufTy : (tb : Table) → Fin (tcTables nBuf tb) → BufTy
  | .hbm, ⟨0, _⟩ => ⟨S21504x8192, .f32⟩
  | .hbm, ⟨1, _⟩ => ⟨S8x128, .f32⟩
  | .hbm, ⟨2, _⟩ => ⟨S21504x2048, .f32⟩
  | .hbm, ⟨3, _⟩ => ⟨S8192x2048, .fp8e4m3⟩
  | .hbm, ⟨4, _⟩ => ⟨S_, .f32⟩
  | .hbm, ⟨5, _⟩ => ⟨S2048, .f32⟩
  | .hbm, ⟨6, _⟩ => ⟨S1, .f32⟩
  | .hbm, ⟨7, _⟩ => ⟨S1x2048, .f32⟩
  | .hbm, ⟨8, _⟩ => ⟨S21504x8192, .fp8e4m3⟩
  | .hbm, ⟨9, _⟩ => ⟨S21504x2048, .bf16⟩
  | .hbm, ⟨10, _⟩ => ⟨S21504x2048, .bf16⟩
  | .local _ .vmem, ⟨0, _⟩ => ⟨S21504x8192, .f32⟩
  | .local _ .vmem, ⟨1, _⟩ => ⟨S8x128, .f32⟩
  | .local _ .vmem, ⟨2, _⟩ => ⟨S21504x2048, .f32⟩
  | .local _ .vmem, ⟨3, _⟩ => ⟨S8192x2048, .fp8e4m3⟩
  | .local _ .vmem, ⟨4, _⟩ => ⟨S1x2048, .f32⟩
  | .local _ .vmem, ⟨5, _⟩ => ⟨S21504x8192, .fp8e4m3⟩
  | .local _ .vmem, ⟨6, _⟩ => ⟨S21504x2048, .bf16⟩
  | .local _ .vmem, ⟨7, _⟩ => ⟨S21504x2048, .bf16⟩
  | .local _ .smem, ⟨0, _⟩ => ⟨S1, .f32⟩
  | _, _ => ⟨S21504x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S21504x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S21504x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S21504x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S21504x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S21504x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Spec.lean ====
/- The layer's arithmetic over the extended reals, as plain functions of rows and columns: what a stored code is, what a
   dense layer of codes computes, what a normalisation computes; and the two identities between the forms the kernels
   and the references write (`d · rsqrt v` against `d / √v`). -/
module

public import Idealize.ShloMosaic.PureOps.Ideal
public import Idealize.ShloMosaic.Lib.Pipeline.ValueKit
public import Idealize.ShloMosaic.Lib.Pointwise

@[expose] public section

noncomputable section

open Idealize.ShloMosaic

namespace Cert.Spec

/-- The code stored for `x` at scale `s`: the quotient clipped to `±448`. -/
def code (s x : EReal) : EReal :=
  min (Ideal.ofBits .f32 0x43E00000#32) (max (Ideal.ofBits .f32 0xC3E00000#32) (Ideal.div x s))

/-- A dense layer on codes, at one row `x` and one column `w`: the contraction, rescaled by the activation's and the
    weight's scale. -/
def dense {K : ℕ} (s ws : EReal) (x w : Fin K → EReal) : EReal := (∑ k, code s (x k) * w k) * (s * ws)

/-- The regularised mean square of a row, `c` its length as the program writes it. -/
def meanSq {n : ℕ} (c : EReal) (d : Fin n → EReal) : EReal :=
  Ideal.div (∑ k, d k * d k) c + Ideal.ofBits .f32 0x358637BD#32

/-- The row `d` normalised by the root of its mean square and weighted, at `e`. -/
def normed {n : ℕ} (c : EReal) (d : Fin n → EReal) (g : EReal) (e : Fin n) : EReal :=
  Ideal.div (d e) (Ideal.sqrt (meanSq c d)) * g

/-! ## The two forms of a normalisation -/

theorem mul_self_nonneg (x : EReal) : 0 ≤ x * x := by
  rcases le_total 0 x with h | h
  · exact mul_nonneg h h
  · have : 0 ≤ (-x) * (-x) := mul_nonneg (EReal.neg_nonneg.mpr h) (EReal.neg_nonneg.mpr h)
    simpa using this

/-- Off zero and below, multiplying by the reciprocal root is dividing by the root. -/
theorem mul_rsqrt {x : EReal} (h : 0 < x) (a : EReal) : a * Ideal.rsqrt x = Ideal.div a (Ideal.sqrt x) := by
  induction x with
  | bot => exact absurd h (by simp)
  | top => simp [Ideal.div]
  | coe r =>
    have hr : 0 < r := by exact_mod_cast h
    have hs : Real.sqrt r ≠ 0 := (Real.sqrt_pos.mpr hr).ne'
    rw [Ideal.rsqrt_coe, if_neg hr.not_gt, if_neg hr.ne']
    show _ = Ideal.div a (if r < 0 then ⊥ else (Real.sqrt r : EReal))
    rw [if_neg hr.not_gt, Ideal.div, if_neg (by exact_mod_cast hs), EReal.coe_inv]

theorem eps_pos : (0 : EReal) < Ideal.ofBits .f32 0x358637BD#32 := by
  simp [Ideal.ofBits, Ideal.ieee, -EReal.coe_mul]

theorem div_nonneg {x c : EReal} (hx : 0 ≤ x) (hc : 0 < c) : 0 ≤ Ideal.div x c := by
  rw [Ideal.div, if_neg hc.ne']
  exact mul_nonneg hx (EReal.inv_nonneg_of_nonneg hc.le)

theorem meanSq_pos {n : ℕ} {c : EReal} (hc : 0 < c) (d : Fin n → EReal) : 0 < meanSq c d :=
  lt_of_lt_of_le eps_pos (le_add_of_nonneg_left (div_nonneg (Finset.sum_nonneg fun k _ => mul_self_nonneg (d k)) hc))

theorem n2048_pos : (0 : EReal) < Ideal.ofBits .f32 0x45000000#32 := by
  simp [Ideal.ofBits, Ideal.ieee, -EReal.coe_mul]

/-- The same, at the regularised mean square of a row of 2048. -/
theorem mul_rsqrt_meanSq {n : ℕ} (a : EReal) (d : Fin n → EReal) :
    a * Ideal.rsqrt (Ideal.div (∑ k, d k * d k) (Ideal.ofBits .f32 0x45000000#32) + Ideal.ofBits .f32 0x358637BD#32)
      = Ideal.div a (Ideal.sqrt (Ideal.div (∑ k, d k * d k) (Ideal.ofBits .f32 0x45000000#32) + Ideal.ofBits .f32 0x358637BD#32)) :=
  mul_rsqrt (meanSq_pos n2048_pos d) a

/-! ## A buffer read back over what was stored in it -/

/-- A covered load of a buffer whose stored pieces are `G` reads `G`. -/
theorem readCov_of {Val : EltTy → Type} [∀ e, Nonempty (Val e)] {sig : RefSig} {κ : Kind} {sp : Space} {s : Shape} {e : EltTy}
    (v : View sig κ sp s e) (L : List (View.Piece Val s e)) (r : Rect s) (G : s.Idx → Val e) (h : ∀ i, View.canon L i = G i) :
    v.readCov L r.toLoadRect = View.ld G r := by
  rw [View.readCov_eq_canon', funext h]

end Cert.Spec
-- ==== Proof.Amax.lean ====
/- Greatest magnitudes over the extended reals. A maximum is known by its upper bounds, so a kernel's tiles, lane groups
   and grid points are joined by saying, at each stage, which entries a bound of it bounds. -/
module

public import proofs.«01_k».proof.Proof.Spec

@[expose] public section

noncomputable section

open Idealize.ShloMosaic

namespace Cert.Spec

/-- The magnitude the programs write. -/
abbrev mag (x : EReal) : EReal := FloatOps.absf (F := Ideal) (φ := .f32) x

/-- The scale of an array whose greatest magnitude is `a`: `1` for an array of zeros. -/
def scaleOf (a : EReal) : EReal := if a = 0 then 1 else Ideal.div a (Ideal.ofBits .f32 0x43E00000#32)

/-- The greatest magnitude of an array. -/
def amax {R C : ℕ} (v : Fin R → Fin C → EReal) : EReal :=
  Finset.univ.fold max (Ideal.ofBits .f32 0xFF800000#32) fun p : Fin R × Fin C => mag (v p.1 p.2)

/-- A maximum's start. -/
theorem start_eq : Ideal.ofBits .f32 0xFF800000#32 = ⊥ := by simp [Ideal.ofBits, Ideal.ieee]

theorem mag_nonneg (x : EReal) : 0 ≤ mag x := by
  show 0 ≤ max x (-x)
  rcases le_total 0 x with h | h
  · exact le_max_of_le_left h
  · exact le_max_of_le_right (EReal.neg_nonneg.mpr h)

theorem fold_le {ι : Type*} (s : Finset ι) (f : ι → EReal) (z : EReal) :
    s.fold max (Ideal.ofBits .f32 0xFF800000#32) f ≤ z ↔ ∀ i ∈ s, f i ≤ z := by
  rw [Finset.fold_max_le, start_eq]; simp

theorem amax_le {R C : ℕ} (v : Fin R → Fin C → EReal) (z : EReal) : amax v ≤ z ↔ ∀ r c, mag (v r c) ≤ z := by
  rw [amax, fold_le]
  exact ⟨fun h r c => h (r, c) (Finset.mem_univ _), fun h p _ => h p.1 p.2⟩

/-- What has the array's upper bounds is its greatest magnitude. -/
theorem eq_amax {R C : ℕ} {a : EReal} {v : Fin R → Fin C → EReal} (h : ∀ z, a ≤ z ↔ ∀ r c, mag (v r c) ≤ z) : a = amax v :=
  eq_of_forall_ge_iff fun z => (h z).trans (amax_le v z).symm

/-! ## A block's lane groups -/

/-- The greatest magnitude in lane group `k` of a block, at sublane and lane `y`. -/
def laneMax {R C : ℕ} (n : ℕ) (hR : R = n * 8) (hC : 0 < C) (v : FVec Ideal ⟨2, ![R, C]⟩ .f32) (y : Shape.Idx ⟨2, ![8, 128]⟩) (k : ℕ) : EReal :=
  Finset.univ.fold max (Ideal.ofBits .f32 0xFF800000#32) fun x : Fin n =>
    mag (v (ix2 ⟨x.val * 8 + (y 0).val, by have := x.isLt; have : (y 0).val < 8 := (y 0).isLt; omega⟩
      ⟨(128 * k + (y 1).val) % C, Nat.mod_lt _ hC⟩))

/-- A bound of every lane group is a bound of the block. -/
theorem laneMax_le {R C n g : ℕ} (hR : R = n * 8) (hC : 0 < C) (hg : C = 128 * g) (v : FVec Ideal ⟨2, ![R, C]⟩ .f32) (z : EReal) :
    (∀ y, ∀ k < g, laneMax n hR hC v y k ≤ z) ↔ ∀ i, mag (v i) ≤ z := by
  constructor
  · intro h i
    have h0 : (i 0).val < R := (i 0).isLt
    have h1 : (i 1).val < C := (i 1).isLt
    have h2 := (fold_le _ _ _).mp (h (ix2 ⟨(i 0).val % 8, Nat.mod_lt _ (by decide)⟩ ⟨(i 1).val % 128, Nat.mod_lt _ (by decide)⟩)
      ((i 1).val / 128) (by omega)) ⟨(i 0).val / 8, by omega⟩ (Finset.mem_univ _)
    refine le_of_eq_of_le (congrArg (fun j => mag (v j)) ?_) h2
    funext a
    refine Fin.cases ?_ (fun b => ?_) a
    · refine Fin.ext ?_
      show (i 0).val = (i 0).val / 8 * 8 + (i 0).val % 8
      omega
    · have hb : b = 0 := Fin.ext (by omega)
      subst hb
      refine Fin.ext ?_
      show (i 1).val = (128 * ((i 1).val / 128) + (i 1).val % 128) % C
      rw [Nat.mod_eq_of_lt] <;> omega
  · intro h y k _
    exact (fold_le _ _ _).mpr fun x _ => h _

/-- A running maximum over `n` pairs of lane groups, from `a`. -/
def chain (f : ℕ → EReal) : ℕ → EReal → EReal
  | 0, a => a
  | n + 1, a => max (chain f n a) (max (f (2 * n)) (f (2 * n + 1)))

theorem chain_le (f : ℕ → EReal) (n : ℕ) (a z : EReal) : chain f n a ≤ z ↔ a ≤ z ∧ ∀ k < 2 * n, f k ≤ z := by
  induction n with
  | zero => simp [chain]
  | succ n ih =>
    rw [chain, max_le_iff, ih, max_le_iff]
    constructor
    · rintro ⟨⟨ha, hk⟩, h1, h2⟩
      refine ⟨ha, fun k hk' => ?_⟩
      rcases lt_or_ge k (2 * n) with h | h
      · exact hk k h
      · rcases (by omega : k = 2 * n ∨ k = 2 * n + 1) with rfl | rfl
        · exact h1
        · exact h2
    · rintro ⟨ha, hk⟩
      exact ⟨⟨ha, fun k h => hk k (by omega)⟩, hk _ (by omega), hk _ (by omega)⟩

/-- The greatest of the lane groups `0 … n`, taken in turn. -/
def lanes (f : ℕ → EReal) : ℕ → EReal
  | 0 => f 0
  | n + 1 => max (lanes f n) (f (n + 1))

theorem lanes_le (f : ℕ → EReal) (n : ℕ) (z : EReal) : lanes f n ≤ z ↔ ∀ k < n + 1, f k ≤ z := by
  induction n with
  | zero => simp [lanes]
  | succ n ih => rw [lanes, max_le_iff, ih, Nat.forall_lt_succ_right (n := n + 1)]

/-! ## The running maximum over the grid points -/

/-- A running maximum that starts at zero and takes in a block at every point: a bound of it is a nonnegative bound of
    every block so far. -/
theorem running_le {N : ℕ} {ι : Type*} (acc : (n : ℕ) → n < N → ι → EReal) (B : ℕ → EReal → Prop)
    (h0 : ∀ h z, (∀ y, acc 0 h y ≤ z) ↔ 0 ≤ z ∧ B 0 z)
    (hs : ∀ n h z, (∀ y, acc (n + 1) h y ≤ z) ↔ (∀ y, acc n (Nat.lt_of_succ_lt h) y ≤ z) ∧ B (n + 1) z) :
    ∀ n h z, (∀ y, acc n h y ≤ z) ↔ 0 ≤ z ∧ ∀ k ≤ n, B k z := by
  intro n
  induction n with
  | zero => intro h z; rw [h0 h z]; simp
  | succ n ih =>
    intro h z
    rw [hs n h z, ih, and_assoc]
    refine and_congr_right fun _ => ⟨fun ⟨hk, hl⟩ k hkn => ?_, fun hk => ⟨fun k hkn => hk k (by omega), hk _ le_rfl⟩⟩
    rcases Nat.lt_or_ge k (n + 1) with h | h
    · exact hk k (by omega)
    · rwa [(by omega : k = n + 1)]

/-- The kernels' closing maximum, over lanes of the maxima over sublanes. -/
def closing (v : Shape.Idx ⟨2, ![8, 128]⟩ → EReal) : EReal :=
  Finset.univ.fold max (Ideal.ofBits .f32 0xFF800000#32) fun x : Fin 128 =>
    Finset.univ.fold max (Ideal.ofBits .f32 0xFF800000#32) fun x_1 : Fin 8 => v (ix2 x_1 x)

theorem closing_le (v : Shape.Idx ⟨2, ![8, 128]⟩ → EReal) (z : EReal) : closing v ≤ z ↔ ∀ y, v y ≤ z := by
  rw [closing, fold_le]
  constructor
  · intro h y
    have h2 := (fold_le _ _ _).mp (h (y 1) (Finset.mem_univ _)) (y 0) (Finset.mem_univ _)
    rwa [show y = ix2 (y 0) (y 1) from by
      funext a
      refine Fin.cases rfl (fun b => ?_) a
      have hb : b = 0 := Fin.ext (by omega)
      subst hb; rfl]
  · intro h x _
    exact (fold_le _ _ _).mpr fun x_1 _ => h _

/-- Blocks of `R` rows put together: a bound of every block's entries is a bound of the array's. -/
theorem blocks_le {R C N M : ℕ} (hM : M = N * R) (v : Fin M → Fin C → EReal) (z : EReal) (hN : 0 < N) (hR : 0 < R) :
    (0 ≤ z ∧ ∀ k ≤ N - 1, ∀ (h : k < N) (r : Fin R) (c : Fin C), mag (v ⟨R * k + r.val, by
        have : R * k + r.val < R * (k + 1) := by rw [Nat.mul_succ]; have := r.isLt; omega
        have : R * (k + 1) ≤ R * N := Nat.mul_le_mul_left R h
        rw [hM, Nat.mul_comm N R]; omega⟩ c) ≤ z)
      ↔ (0 ≤ z ∧ ∀ r c, mag (v r c) ≤ z) := by
  refine and_congr_right fun _ => ⟨fun h r c => ?_, fun h k _ hk r c => h _ c⟩
  have hlt : r.val / R < N := Nat.div_lt_of_lt_mul (by rw [Nat.mul_comm, ← hM]; exact r.isLt)
  have := h (r.val / R) (by omega) hlt ⟨r.val % R, Nat.mod_lt _ hR⟩ c
  refine le_of_eq_of_le (congrArg (fun j => mag (v j c)) (Fin.ext ?_)) this
  exact (Nat.div_add_mod r.val R).symm

/-- Magnitudes are nonnegative, so a bound of a nonempty array is. -/
theorem nonneg_and_iff {R C : ℕ} (v : Fin R → Fin C → EReal) (z : EReal) (hR : 0 < R) (hC : 0 < C) :
    (0 ≤ z ∧ ∀ r c, mag (v r c) ≤ z) ↔ ∀ r c, mag (v r c) ≤ z :=
  ⟨fun h => h.2, fun h => ⟨le_trans (mag_nonneg _) (h ⟨0, hR⟩ ⟨0, hC⟩), h⟩⟩

end Cert.Spec
-- ==== Proof.AmaxBlock.lean ====
/- The input's scale kernel, read after its run. The running maximum takes in a block of rows at every point, so that at
   the last point a bound of it is a bound of every entry's magnitude. -/
module

public import proofs.«01_k».proof.Proof.Gen.AmaxIdeal.Value
public import Idealize.ShloMosaic.Lib.Pipeline.ReadBack
public import proofs.«01_k».proof.Proof.Spec
public import proofs.«01_k».proof.Proof.Amax

@[expose] public section

set_option maxRecDepth 16384

noncomputable section

open Idealize.ShloMosaic Idealize.ShloMosaic.TcCoe Idealize.SL.Sem
open Idealize.ShloMosaic.Pipeline (Dat)

namespace Cert.AmaxIdeal.Block

open Cert.AmaxIdeal Cert.AmaxIdeal.Gen Cert.AmaxIdeal.Value Cert.Spec

variable (m : (ℓ : Loc nD τ sig) → Buf (Elt Ideal) ℓ)

/-- The array, by token and column. -/
abbrev rowsOf (x : FVec Ideal ⟨3, ![3, 7168, 2048]⟩ .bf16) : Fin 21504 → Fin 2048 → EReal := fun r e =>
  x (ix3 ⟨r.val / 7168, by omega⟩ ⟨r.val % 7168, by omega⟩ e)

theorem idx : ∀ t : Fin cfg0.N, win0_0.index t = ![t.val, 0] ∧ win0_1.index t = ![0, 0] :=
  (by decide +kernel : ∀ t : Fin grid0.N, _)

/-- A point's block of rows. -/
abbrev res (c : Dev nD) (t : Fin cfg0.N) : FVec Ideal S1024x2048 .f32 := fun i => iblk m c 0 t i

theorem res_eq (c : Dev nD) (t : Fin cfg0.N) (r : Fin 1024) (e : Fin 2048) (h) :
    res m c t (ix2 r e) = rowsOf (m ((c : Thread nD τ).loc main_arg0)) ⟨1024 * t.val + r.val, h⟩ e := by
  pointwise [res, rowsOf]
  blk_point [iblk, V, idx t]

/-- What a point makes of the running maximum `a` it finds. -/
def taken (c : Dev nD) (t : Fin cfg0.N) (a : EReal) (y : S8x128.Idx) : EReal :=
  max a (lanes (laneMax 128 rfl (by decide) (res m c t) y) 15)

theorem zero_pay (y) : k0_pay2 (F := Ideal) y = 0 := by
  pointwise [k0_pay2]

theorem take (a : FVec Ideal S8x128 .f32) (x : FVec Ideal S1024x2048 .bf16) (y : S8x128.Idx) :
    k0_pay3 (F := Ideal) a x y = max (a y) (lanes (laneMax 128 rfl (by decide) (fun i => x i) y) 15) := by
  simp only [lanes, laneMax, mag]
  pointwise [k0_pay3]
  blk_point []

theorem accAt_zero (c : Dev nD) (t : Fin cfg0.N) (h0 : t.val % 21 = 0) (h1 : ¬ t.val % 21 = 20) (y) :
    (outsAt0 m c t.val t.isLt).2 y = taken m c t 0 y := by
  rw [outsAt0_A m c t h0 h1]
  frame_out
  rw [take, zero_pay, taken]

theorem accAt_succ (c : Dev nD) (t : Fin cfg0.N) (h0 : ¬ t.val % 21 = 0) (y) :
    (outsAt0 m c t.val t.isLt).2 y = taken m c t ((outsAt0 m c (t.val - 1) (Nat.lt_of_le_of_lt (Nat.sub_le _ _) t.isLt)).2 y) y := by
  by_cases h1 : t.val % 21 = 20
  all_goals
    first | rw [outsAt0_B m c t h0 h1] | rw [outsAt0_C m c t h0 h1]
    frame_out
    rw [take, taken]
    simp only [read_unread_whole]

/-- The last point's scale is of the running maximum it leaves. -/
theorem scaleAt (c : Dev nD) (t : Fin cfg0.N) (h1 : t.val % 21 = 20) (y) :
    (outsAt0 m c t.val t.isLt).1 y = scaleOf (closing fun y => (outsAt0 m c t.val t.isLt).2 y) := by
  rw [outsAt0_C m c t (by omega) h1]; frame_out
  rw [k0_pay1]
  pointwise [scaleOf, closing]

/-- A bound of what a point leaves of the running maximum, against a bound of what it found. -/
theorem acc_le (c : Dev nD) (t : Fin cfg0.N) (a : S8x128.Idx → EReal) (z : EReal)
    (h : ∀ y, (outsAt0 m c t.val t.isLt).2 y = taken m c t (a y) y) :
    (∀ y, (outsAt0 m c t.val t.isLt).2 y ≤ z) ↔ (∀ y, a y ≤ z) ∧ ∀ r e, mag (res m c t (ix2 r e)) ≤ z := by
  simp only [h, taken, max_le_iff, lanes_le, forall_and]
  refine and_congr_right fun _ => (laneMax_le (R := 1024) (n := 128) (C := 2048) (g := 16) rfl (by decide) rfl (res m c t) z).trans ⟨fun h r e => h _, fun h i => ?_⟩
  exact le_of_eq_of_le (congrArg (fun j => mag (res m c t j)) (ix2_eta i).symm) (h (i 0) (i 1))

theorem sweep_le (c : Dev nD) (n : ℕ) (hn : n < cfg0.N) (z : EReal) :
    (∀ y, (outsAt0 m c n hn).2 y ≤ z) ↔ 0 ≤ z ∧ ∀ k ≤ n, ∀ (h : k < cfg0.N) r e, mag (res m c ⟨k, h⟩ (ix2 r e)) ≤ z := by
  refine running_le (fun n hn y => (outsAt0 m c n hn).2 y) (fun k z => ∀ (h : k < cfg0.N) r e, mag (res m c ⟨k, h⟩ (ix2 r e)) ≤ z)
    (fun h z => ?_) (fun n h z => ?_) n hn z
  · refine (acc_le m c ⟨0, h⟩ (fun _ => 0) z (accAt_zero m c ⟨0, h⟩ rfl (by show ¬ 0 % 21 = 20; decide))).trans ?_
    exact and_congr ⟨fun h => h (ix2 0 0), fun h _ => h⟩ ⟨fun h _ => h, fun h' => h' h⟩
  · have hlt : n + 1 < 21 := h
    refine (acc_le m c ⟨n + 1, h⟩ _ z (accAt_succ m c ⟨n + 1, h⟩ (by show ¬ (n + 1) % 21 = 0; omega))).trans ?_
    exact and_congr Iff.rfl ⟨fun h _ => h, fun h' => h' h⟩

/-- The last point leaves the array's. -/
theorem closing_eq (c : Dev nD) (n : ℕ) (hn : n < cfg0.N) (h : n = 20) :
    (closing fun y => (outsAt0 m c n hn).2 y) = amax (rowsOf (m ((c : Thread nD τ).loc main_arg0))) := by
  subst h
  refine eq_amax fun z => ?_
  rw [closing_le, sweep_le, ← nonneg_and_iff _ _ (by decide) (by decide),
    ← blocks_le (R := 1024) (N := 21) (M := 21504) rfl (rowsOf (m ((c : Thread nD τ).loc main_arg0))) z (by decide) (by decide)]
  refine and_congr_right fun _ => forall_congr' fun k => forall_congr' fun _ => forall_congr' fun h => forall_congr' fun r => forall_congr' fun e => ?_
  rw [res_eq]

/-- The result array. -/
theorem final1 (c : Dev nD) : (dats m 0 c).arrAt 1 (cfgs 0).N = fun _ => scaleOf (amax (rowsOf (m ((c : Thread nD τ).loc main_arg0)))) := by
  refine (dats m 0 c).arrAt_eq_of_covers 1 _ (by decide +kernel) fun t ht y => ?_
  have h1 : t.val % 21 = 20 := (by decide +kernel : ∀ t : Fin grid0.N, (cfg0.win 1).flush t = true → t.val % 21 = 20) t ht
  have hlt : t.val < 21 := t.isLt
  blk_simp
  rw [after0_1, scaleAt m c t h1, closing_eq m c t.val t.isLt (by omega)]

end Cert.AmaxIdeal.Block
-- ==== Proof.AmaxClaim.lean ====
/- The input's scale claim: the kernel's blockwise running maximum and the reference's maximum over the whole array give
   the same scale. -/
module

public import proofs.«01_k».proof.Defs
public import proofs.«01_k».proof.Proof.AmaxBlock
public import proofs.«01_k».proof.Proof.Gen.AmaxRefIdeal.Run

@[expose] public section

set_option maxRecDepth 16384

noncomputable section

open Idealize.ShloMosaic Idealize.ShloMosaic.TcCoe Idealize.SL.Sem

namespace Cert.Proof

open Cert.Spec Cert.AmaxIdeal.Block

/-- The greatest magnitude over three axes is the one over rows and columns. -/
theorem fold_rows {A B C R : ℕ} (hR : R = A * B) (x : Fin A → Fin B → Fin C → EReal) (v : Fin R → Fin C → EReal)
    (hv : ∀ a b r c, r.val = B * a.val + b.val → v r c = x a b c) :
    (Finset.univ.fold max (Ideal.ofBits .f32 0xFF800000#32) fun p : Fin A × Fin B × Fin C => mag (x p.1 p.2.1 p.2.2)) = amax v := by
  refine eq_amax fun z => ?_
  rw [fold_le]
  constructor
  · intro h r e
    have hB : 0 < B := Nat.pos_of_ne_zero fun h0 => by have := lt_of_lt_of_eq r.isLt hR; rw [h0, Nat.mul_zero] at this; omega
    have hq : r.val / B < A := Nat.div_lt_of_lt_mul (by have := lt_of_lt_of_eq r.isLt hR; rwa [Nat.mul_comm] at this)
    rw [hv ⟨r.val / B, hq⟩ ⟨r.val % B, Nat.mod_lt _ hB⟩ r e (Nat.div_add_mod r.val B).symm]
    exact h (⟨r.val / B, hq⟩, ⟨r.val % B, Nat.mod_lt _ hB⟩, e) (Finset.mem_univ _)
  · intro h p _
    have hlt : B * p.1.val + p.2.1.val < R := by
      have h1 := p.2.1.isLt
      have h2 : B * (p.1.val + 1) ≤ B * A := Nat.mul_le_mul_left B p.1.isLt
      rw [Nat.mul_succ] at h2
      refine lt_of_lt_of_eq ?_ hR.symm
      rw [Nat.mul_comm A B]; omega
    rw [← hv p.1 p.2.1 ⟨_, hlt⟩ p.2.2 rfl]
    exact h _ _

section

open Cert.AmaxRefIdeal Cert.AmaxRefIdeal.Gen

theorem reduce_eq (v : FVec Ideal S3x7168x2048 .f32) (y : S_.Idx) :
    Host.reduce FloatOps.maximumf v (constant (F := Ideal) S_ .f32 0xFF800000#32) reducesTo_S3x7168x2048_S_d0_1_2 h_S_ y
      = Finset.univ.fold max (Ideal.ofBits .f32 0xFF800000#32) fun p : Fin 3 × Fin 7168 × Fin 2048 => v (ix3 p.1 p.2.1 p.2.2) := by
  pointwise []

theorem scale_eq (a : FVec Ideal S_ .f32) (y : S8x128.Idx) :
    broadcastInDim S8x128 ![] bcast_S_S8x128 (select (cmpf .oeq a (constant S_ .f32 0x00000000#32)) (id (constant S_ .f32 0x3F800000#32))
      (Host.divf a (constant S_ .f32 0x43E00000#32))) y = scaleOf (a ix0) := by
  simp only [id_eq]
  pointwise [scaleOf]

theorem ref_eq (x : FVec Ideal S3x7168x2048 .bf16) :
    broadcastInDim S8x128 ![] bcast_S_S8x128 (select (cmpf .oeq (Host.reduce FloatOps.maximumf (Host.absf (extf .f32 x bitsLt_bf16_f32)) (constant S_ .f32 0xFF800000#32) reducesTo_S3x7168x2048_S_d0_1_2 h_S_) (constant S_ .f32 0x00000000#32)) (id (constant S_ .f32 0x3F800000#32)) (Host.divf (Host.reduce FloatOps.maximumf (Host.absf (extf .f32 x bitsLt_bf16_f32)) (constant S_ .f32 0xFF800000#32) reducesTo_S3x7168x2048_S_d0_1_2 h_S_) (constant S_ .f32 0x43E00000#32)))
      = fun _ => scaleOf (amax (rowsOf x)) := by
  funext y
  rw [scale_eq, reduce_eq]
  exact congrArg scaleOf (fold_rows (A := 3) (B := 7168) rfl (fun a b c => x (ix3 a b c)) (rowsOf x) (fun a b r c h =>
    congrArg₂ (fun p q => x (ix3 p q c)) (Fin.ext (by show r.val / 7168 = a.val; omega)) (Fin.ext (by show r.val % 7168 = b.val; omega))))

end

/-- The host reference declares no semaphore. -/
theorem amaxRef_frame : quiescent_AmaxRefIdeal (hAmaxRefIdeal := Cert.AmaxRefIdeal.Gen.facts) := fun m ρ _ =>
  (θ_run Cert.AmaxRefIdeal.defs _ _).mono
    (fun r h => ⟨fun c => (h c).2, funext fun i => nomatch i⟩) (Cert.AmaxRefIdeal.Value.run (F := Ideal) m ρ)

theorem amax : algebraic_AmaxIdeal_AmaxRefIdeal (hAmaxIdeal := Cert.AmaxIdeal.Gen.facts) (hAmaxRefIdeal := Cert.AmaxRefIdeal.Gen.facts) := by
  intro m g m' g' _ hagree
  refine ⟨fun c => fun _ => scaleOf (Spec.amax (rowsOf (m (c.tc.loc AmaxIdeal.main_arg0)))),
    (θ_run Cert.AmaxIdeal.defs _ _).mono (fun r h c => ?_) (Cert.AmaxIdeal.Value.run_blocks m g),
    (θ_run Cert.AmaxRefIdeal.defs _ _).mono (fun r h c => ?_) (Cert.AmaxRefIdeal.Value.run m' g')⟩
  · obtain ⟨h0, h⟩ := h c
    exact ⟨h0.trans (Cert.AmaxIdeal.Block.final1 m c), h⟩
  · obtain ⟨h0, h⟩ := h c
    have a0 := hagree c
    exact ⟨h0.trans ((ref_eq _).trans (by rw [a0]; rfl)), h⟩

end Cert.Proof
-- ==== Proof.OprojSpec.lean ====
/- The output projection over the extended reals: its four results as functions of its arguments. -/
module

public import proofs.«01_k».proof.Proof.Amax

@[expose] public section

noncomputable section

open Idealize.ShloMosaic

namespace Cert.Spec.Oproj

variable (o : FVec Ideal ⟨2, ![21504, 2048]⟩ .f32) (s : FVec Ideal ⟨2, ![8, 128]⟩ .f32) (x : FVec Ideal ⟨3, ![3, 7168, 2048]⟩ .bf16)
  (w : FVec Ideal ⟨3, ![16, 128, 2048]⟩ .fp8e4m3) (ws : FVec Ideal ⟨0, ![]⟩ .f32) (g : FVec Ideal ⟨1, ![2048]⟩ .f32)

/-- The attention output's codes, by token, head and coordinate. -/
def codes : FVec Ideal ⟨3, ![21504, 16, 128]⟩ .fp8e4m3 := fun i =>
  code (s (ix2 0 0)) (o (ix2 (i 0) ⟨(i 1).val * 128 + (i 2).val, by
    have : (i 1).val < 16 := (i 1).isLt
    have : (i 2).val < 128 := (i 2).isLt
    omega⟩))

/-- The projection, row `r`, column `e`. -/
def proj (r : Fin 21504) (e : Fin 2048) : EReal :=
  dense (s (ix2 0 0)) (ws ix0) (fun k => o (ix2 r k)) (fun k : Fin 2048 => w (ix3 ⟨k.val / 128, by omega⟩ ⟨k.val % 128, by omega⟩ e))

/-- The projection as it is returned. -/
def hAttn : FVec Ideal ⟨2, ![21504, 2048]⟩ .bf16 := fun i => proj o s w ws (i 0) (i 1)

/-- The residual stream after attention. -/
def h1 : FVec Ideal ⟨2, ![21504, 2048]⟩ .f32 := fun i =>
  x (ix3 ⟨(i 0).val / 7168, by have : (i 0).val < 21504 := (i 0).isLt; omega⟩ ⟨(i 0).val % 7168, by omega⟩ (i 1))
    + normed (Ideal.ofBits .f32 0x45000000#32) (proj o s w ws (i 0)) (g (ix1 (i 1))) (i 1)

/-- The residual stream's scale, in every entry. -/
def scale : FVec Ideal ⟨2, ![8, 128]⟩ .f32 := fun _ => scaleOf (amax fun r e => h1 o s x w ws g (ix2 r e))

end Cert.Spec.Oproj
-- ==== Proof.OprojBlock.lean ====
/- The output projection's kernel, read after its run: a grid point stores its 512 rows of the codes, of the projection
   and of the residual stream, computed in four column tiles and four row bands, and takes the stream's magnitudes into the
   running maximum the last point's scale is of. -/
module

public import proofs.«01_k».proof.Proof.Gen.OprojIdeal.Value
public import Idealize.ShloMosaic.Lib.Pipeline.ReadBack
public import proofs.«01_k».proof.Proof.OprojSpec

@[expose] public section

set_option maxRecDepth 16384

noncomputable section

open Idealize.ShloMosaic Idealize.ShloMosaic.TcCoe Idealize.SL.Sem
open Idealize.ShloMosaic.Pipeline (Dat)

namespace Cert.OprojIdeal.Block

open Cert.OprojIdeal Cert.OprojIdeal.Gen Cert.OprojIdeal.Value Cert.Spec

variable (m : (ℓ : Loc nD τ sig) → Buf (Elt Ideal) ℓ)

theorem idx : ∀ t : Fin cfg0.N, win0_0.index t = ![0] ∧ win0_1.index t = ![0, 0] ∧ win0_2.index t = ![t.val, 0] ∧ win0_3.index t = ![t.val, 0]
    ∧ win0_4.index t = ![0, 0] ∧ win0_5.index t = ![0, 0] ∧ win0_6.index t = ![t.val, 0, 0] ∧ win0_7.index t = ![t.val, 0]
    ∧ win0_8.index t = ![t.val, 0] ∧ win0_9.index t = ![0, 0] :=
  (by decide +kernel : ∀ t : Fin grid0.N, _)

/-- The first point, a point between and the last one. -/
theorem point (t : Fin cfg0.N) : (t.val % 42 = 0 ∧ ¬ t.val % 42 = 41) ∨ (¬ t.val % 42 = 0 ∧ ¬ t.val % 42 = 41) ∨ (¬ t.val % 42 = 0 ∧ t.val % 42 = 41) := by
  omega

/-- The projection of a block of rows, over the blocks a point is given. -/
def rows (ws : FVec Ideal S1 .f32) (s : FVec Ideal S8x128 .f32) (o : FVec Ideal S512x2048 .f32) (w : FVec Ideal S2048x2048 .fp8e4m3) :
    FVec Ideal S512x2048 .f32 := fun i =>
  dense (s (ix2 0 0)) (ws (ix1 0)) (fun k : Fin 2048 => o (ix2 (i 0) k)) (fun k => w (ix2 k (i 1)))

/-- The residual stream of a block of rows with the projection `d`, as the kernel writes the normalisation. -/
def stream (x : FVec Ideal S512x2048 .bf16) (d : FVec Ideal S512x2048 .f32) (g : FVec Ideal S1x2048 .f32) : FVec Ideal S512x2048 .f32 := fun i =>
  x (ix2 (i 0) (i 1)) + d (ix2 (i 0) (i 1))
    * Ideal.rsqrt (meanSq (Ideal.ofBits .f32 0x45000000#32) fun e : Fin 2048 => d (ix2 (i 0) e)) * g (ix2 0 (i 1))

/-- Point `t`'s projection. -/
abbrev raw (c : Dev nD) (t : Fin cfg0.N) : FVec Ideal S512x2048 .f32 := rows (iblk m c 0 t) (iblk m c 1 t) (iblk m c 2 t) (iblk m c 4 t)

/-- Point `t`'s residual stream. -/
abbrev res (c : Dev nD) (t : Fin cfg0.N) : FVec Ideal S512x2048 .f32 := stream (iblk m c 3 t) (raw m c t) (iblk m c 5 t)

/-- Row band `b` of a block. -/
def band (v : FVec Ideal S512x2048 .f32) (b : Fin 4) : FVec Ideal ⟨2, ![128, 2048]⟩ .f32 := fun i =>
  v (ix2 ⟨128 * b.val + (i 0).val, by have : (i 0).val < 128 := (i 0).isLt; omega⟩ (i 1))

/-! ## What a point leaves -/

theorem codesAt (c : Dev nD) (t : Fin cfg0.N) (y) : (outsAt0 m c t.val t.isLt).1 y
    = code (iblk m c 1 t (ix2 0 0)) (iblk m c 2 t (ix2 (y 0) ⟨(y 1).val * 128 + (y 2).val, by
        have : (y 1).val < 16 := (y 1).isLt
        have : (y 2).val < 128 := (y 2).isLt
        omega⟩)) := by
  rcases point t with ⟨h0, h1⟩ | ⟨h0, h1⟩ | ⟨h0, h1⟩
  all_goals
    first | rw [outsAt0_A m c t h0 h1] | rw [outsAt0_B m c t h0 h1] | rw [outsAt0_C m c t h0 h1]
    frame_out
    pointwise [k0_pay10, k0_pay4, code]

set_option maxHeartbeats 1600000 in
theorem hAt (c : Dev nD) (t : Fin cfg0.N) (y) : (outsAt0 m c t.val t.isLt).2.1 y = raw m c t y := by
  rcases point t with ⟨h0, h1⟩ | ⟨h0, h1⟩ | ⟨h0, h1⟩
  all_goals
    first | rw [outsAt0_A m c t h0 h1] | rw [outsAt0_B m c t h0 h1] | rw [outsAt0_C m c t h0 h1]
    frame_out
    canon_tiles x h
  all_goals
    rw [readCov_of (G := raw m c t)]
    · pointwise [k0_pay11, k0_pay16, k0_pay22, k0_pay27]
      blk_point []
    · intro i
      canon_tiles z h
      all_goals
        pointwise [k0_pay3, k0_pay4, k0_pay5, k0_pay6, k0_pay7, k0_pay8, k0_pay9, rows, dense, code]
        blk_point []

set_option maxHeartbeats 1600000 in
theorem h1At (c : Dev nD) (t : Fin cfg0.N) (y) : (outsAt0 m c t.val t.isLt).2.2.1 y = res m c t y := by
  rcases point t with ⟨h0, h1⟩ | ⟨h0, h1⟩ | ⟨h0, h1⟩
  all_goals
    first | rw [outsAt0_A m c t h0 h1] | rw [outsAt0_B m c t h0 h1] | rw [outsAt0_C m c t h0 h1]
    frame_out
    canon_tiles x h
  all_goals
    rw [readCov_of (G := raw m c t)]
    · pointwise [k0_pay12, k0_pay17, k0_pay23, k0_pay28, k0_pay29, k0_pay30, stream, meanSq]
      blk_point []
    · intro i
      canon_tiles z h
      all_goals
        pointwise [k0_pay3, k0_pay4, k0_pay5, k0_pay6, k0_pay7, k0_pay8, k0_pay9, rows, dense, code]
        blk_point []

end Cert.OprojIdeal.Block
-- ==== Proof.OprojTake.lean ====
/- The output projection's bands of 128 rows: their part of the residual stream, and its magnitudes taken into the running
   maximum. -/
module

public import proofs.«01_k».proof.Proof.OprojBlock
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OprojIdeal.Block

open Cert.OprojIdeal Cert.OprojIdeal.Gen Cert.OprojIdeal.Value Cert.Spec

variable (m : (ℓ : Loc nD τ sig) → Buf (Elt Ideal) ℓ)

/-! ## A band's magnitudes taken into the running maximum `a`, from the band's projection `v`, input rows `x` and weights `g` -/

theorem take0 (a : FVec Ideal S8x128 .f32) (v : Vec Ideal S128x2048 .f32) (x : Vec Ideal S128x2048 .bf16) (g : Vec Ideal S1x2048 .f32) (y) :
    k0_pay15 (F := Ideal) a (k0_pay13 v x g) (k0_pay14 v x g) y = max (a y) (lanes (laneMax 16 rfl (by decide) (k0_pay12 v x g) y) 15) := by
  simp only [lanes, laneMax, mag]
  pointwise [k0_pay13, k0_pay14, k0_pay15]
  blk_point []

theorem take1 (a : FVec Ideal S8x128 .f32) (v : Vec Ideal S128x2048 .f32) (x : Vec Ideal S128x2048 .bf16) (g : Vec Ideal S1x2048 .f32) (y) :
    k0_pay21 (F := Ideal) a (k0_pay18 v x g) (k0_pay19 v x g) (k0_pay20 v x g) y = max (a y) (lanes (laneMax 16 rfl (by decide) (k0_pay17 v x g) y) 15) := by
  simp only [lanes, laneMax, mag]
  pointwise [k0_pay18, k0_pay19, k0_pay20, k0_pay21]
  blk_point []

theorem take2 (a : FVec Ideal S8x128 .f32) (v : Vec Ideal S128x2048 .f32) (x : Vec Ideal S128x2048 .bf16) (g : Vec Ideal S1x2048 .f32) (y) :
    k0_pay26 (F := Ideal) a (k0_pay24 v x g) (k0_pay25 v x g) y = max (a y) (lanes (laneMax 16 rfl (by decide) (k0_pay23 v x g) y) 15) := by
  simp only [lanes, laneMax, mag]
  pointwise [k0_pay24, k0_pay25, k0_pay26]
  blk_point []

theorem take3 (a : FVec Ideal S8x128 .f32) (v x : FVec Ideal S128x2048 .f32) (g : Vec Ideal S1x2048 .f32) (y) :
    k0_pay31 (F := Ideal) a v x g y = max (a y) (lanes (laneMax 16 rfl (by decide) (k0_pay30 v x g) y) 15) := by
  simp only [lanes, laneMax, mag]
  pointwise [k0_pay31]
  blk_point []

end Cert.OprojIdeal.Block
-- ==== Proof.OprojAcc.lean ====
/- The output projection's running maximum: what a grid point makes of what it finds. -/
module

public import proofs.«01_k».proof.Proof.OprojTake
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OprojIdeal.Block

open Cert.OprojIdeal Cert.OprojIdeal.Gen Cert.OprojIdeal.Value Cert.Spec

variable (m : (ℓ : Loc nD τ sig) → Buf (Elt Ideal) ℓ)

/-! ## The bands of a block -/

theorem band0 (v : FVec Ideal S512x2048 .f32) (x : FVec Ideal S512x2048 .bf16) (g : FVec Ideal S1x2048 .f32) :
    k0_pay12 (F := Ideal) (View.ld (Val := Elt Ideal) (e' := .f32) v (Rect.unit (s := S512x2048) ![0, 0] ![128, 2048] inb_S512x2048_S128x2048_0_0)) (View.ld (Val := Elt Ideal) (e' := .bf16) x (Rect.unit (s := S512x2048) ![0, 0] ![128, 2048] inb_S512x2048_S128x2048_0_0)) g = band (stream x v g) 0 := by
  funext i
  pointwise [k0_pay12, band, stream, meanSq]

theorem band1 (v : FVec Ideal S512x2048 .f32) (x : FVec Ideal S512x2048 .bf16) (g : FVec Ideal S1x2048 .f32) :
    k0_pay17 (F := Ideal) (View.ld (Val := Elt Ideal) (e' := .f32) v (Rect.unit (s := S512x2048) ![128, 0] ![128, 2048] inb_S512x2048_S128x2048_128_0)) (View.ld (Val := Elt Ideal) (e' := .bf16) x (Rect.unit (s := S512x2048) ![128, 0] ![128, 2048] inb_S512x2048_S128x2048_128_0)) g = band (stream x v g) 1 := by
  funext i
  pointwise [k0_pay17, band, stream, meanSq]

theorem band2 (v : FVec Ideal S512x2048 .f32) (x : FVec Ideal S512x2048 .bf16) (g : FVec Ideal S1x2048 .f32) :
    k0_pay23 (F := Ideal) (View.ld (Val := Elt Ideal) (e' := .f32) v (Rect.unit (s := S512x2048) ![256, 0] ![128, 2048] inb_S512x2048_S128x2048_256_0)) (View.ld (Val := Elt Ideal) (e' := .bf16) x (Rect.unit (s := S512x2048) ![256, 0] ![128, 2048] inb_S512x2048_S128x2048_256_0)) g = band (stream x v g) 2 := by
  funext i
  pointwise [k0_pay23, band, stream, meanSq]

theorem band3 (v : FVec Ideal S512x2048 .f32) (x : FVec Ideal S512x2048 .bf16) (g : FVec Ideal S1x2048 .f32) :
    k0_pay30 (F := Ideal) (k0_pay28 (View.ld (Val := Elt Ideal) (e' := .bf16) x (Rect.unit (s := S512x2048) ![384, 0] ![128, 2048] inb_S512x2048_S128x2048_384_0))) (k0_pay29 (View.ld (Val := Elt Ideal) (e' := .f32) v (Rect.unit (s := S512x2048) ![384, 0] ![128, 2048] inb_S512x2048_S128x2048_384_0))) g = band (stream x v g) 3 := by
  funext i
  pointwise [k0_pay28, k0_pay29, k0_pay30, band, stream, meanSq]

/-- What a point makes of the running maximum `a` it finds. -/
def taken (c : Dev nD) (t : Fin cfg0.N) (a : EReal) (y : S8x128.Idx) : EReal :=
  max (max (max (max a (lanes (laneMax 16 rfl (by decide) (band (res m c t) 0) y) 15)) (lanes (laneMax 16 rfl (by decide) (band (res m c t) 1) y) 15))
    (lanes (laneMax 16 rfl (by decide) (band (res m c t) 2) y) 15)) (lanes (laneMax 16 rfl (by decide) (band (res m c t) 3) y) 15)

theorem zero_pay (y) : k0_pay2 (F := Ideal) y = 0 := by
  pointwise [k0_pay2]

set_option maxHeartbeats 1600000 in
theorem accAt_zero (c : Dev nD) (t : Fin cfg0.N) (h0 : t.val % 42 = 0) (h1 : ¬ t.val % 42 = 41) (y) :
    (outsAt0 m c t.val t.isLt).2.2.2.2 y = taken m c t 0 y := by
  rw [outsAt0_A m c t h0 h1]
  frame_out
  rw [readCov_of (G := raw m c t), readCov_of (G := raw m c t), readCov_of (G := raw m c t), readCov_of (G := raw m c t)]
  · rw [take3, band3, take2, band2, take1, band1, take0, band0, zero_pay, taken]
  all_goals
    intro i
    canon_tiles z h
    all_goals
      pointwise [k0_pay3, k0_pay4, k0_pay5, k0_pay6, k0_pay7, k0_pay8, k0_pay9, rows, dense, code]
      blk_point []

set_option maxHeartbeats 1600000 in
theorem accAt_succ (c : Dev nD) (t : Fin cfg0.N) (h0 : ¬ t.val % 42 = 0) (y) :
    (outsAt0 m c t.val t.isLt).2.2.2.2 y = taken m c t ((outsAt0 m c (t.val - 1) (Nat.lt_of_le_of_lt (Nat.sub_le _ _) t.isLt)).2.2.2.2 y) y := by
  by_cases h1 : t.val % 42 = 41
  all_goals
    first | rw [outsAt0_B m c t h0 h1] | rw [outsAt0_C m c t h0 h1]
    frame_out
    rw [readCov_of (G := raw m c t), readCov_of (G := raw m c t), readCov_of (G := raw m c t), readCov_of (G := raw m c t)]
    · rw [take3, band3, take2, band2, take1, band1, take0, band0, taken]
      simp only [read_unread_whole]
    all_goals
      intro i
      canon_tiles z h
      all_goals
        pointwise [k0_pay3, k0_pay4, k0_pay5, k0_pay6, k0_pay7, k0_pay8, k0_pay9, rows, dense, code]
        blk_point []

/-- The last point's scale is of the running maximum it leaves. -/
theorem scaleAt (c : Dev nD) (t : Fin cfg0.N) (h1 : t.val % 42 = 41) (y) :
    (outsAt0 m c t.val t.isLt).2.2.2.1 y = scaleOf (closing fun y => (outsAt0 m c t.val t.isLt).2.2.2.2 y) := by
  rw [outsAt0_C m c t (by omega) h1]; frame_out
  rw [k0_pay1]
  pointwise [scaleOf, closing]

end Cert.OprojIdeal.Block
-- ==== Proof.OprojSweep.lean ====
/- The output projection's kernel over its whole grid: the blocks of its results put together, and the running maximum of
   the residual stream's magnitudes, whose last value the scale is of. -/
module

public import proofs.«01_k».proof.Proof.OprojAcc

@[expose] public section

set_option maxRecDepth 16384

noncomputable section

open Idealize.ShloMosaic Idealize.ShloMosaic.TcCoe Idealize.SL.Sem
open Idealize.ShloMosaic.Pipeline (Dat)

namespace Cert.OprojIdeal.Block

open Cert.OprojIdeal Cert.OprojIdeal.Gen Cert.OprojIdeal.Value Cert.Spec

variable (m : (ℓ : Loc nD τ sig) → Buf (Elt Ideal) ℓ)

/-- The whole array's residual stream, of the arguments. -/
abbrev whole (c : Dev nD) : FVec Ideal ⟨2, ![21504, 2048]⟩ .f32 :=
  Spec.Oproj.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- A point's rows are the array's. -/
theorem res_eq (c : Dev nD) (t : Fin cfg0.N) (r : Fin 512) (e : Fin 2048) (h) :
    res m c t (ix2 r e) = whole m c (ix2 ⟨512 * t.val + r.val, h⟩ e) := by
  pointwise [res, raw, whole, rows, stream, meanSq, Spec.Oproj.h1, Spec.Oproj.proj, normed, dense, code]
  rw [mul_rsqrt_meanSq]
  blk_point [iblk, V, idx t]

/-! ## The running maximum -/

/-- Every band, one by one. -/
theorem each (p : Fin 4 → Prop) : (∀ b, p b) ↔ p 0 ∧ p 1 ∧ p 2 ∧ p 3 :=
  ⟨fun h => ⟨h 0, h 1, h 2, h 3⟩, fun ⟨a, b, c, d⟩ i => match i with | 0 => a | 1 => b | 2 => c | 3 => d⟩

/-- A bound of every band is a bound of the block. -/
theorem bands_le (v : FVec Ideal S512x2048 .f32) (z : EReal) :
    (∀ b : Fin 4, ∀ i, mag (band v b i) ≤ z) ↔ ∀ r e, mag (v (ix2 r e)) ≤ z := by
  constructor
  · intro h r e
    have := h ⟨r.val / 128, by omega⟩ (ix2 ⟨r.val % 128, by omega⟩ e)
    refine le_of_eq_of_le (congrArg (fun j => mag (v (ix2 j e))) (Fin.ext ?_)) this
    exact (Nat.div_add_mod r.val 128).symm
  · intro h b i
    exact h _ _

/-- A bound of what a point leaves of the running maximum, against a bound of what it found. -/
theorem acc_le (c : Dev nD) (t : Fin cfg0.N) (a : S8x128.Idx → EReal) (z : EReal)
    (h : ∀ y, (outsAt0 m c t.val t.isLt).2.2.2.2 y = taken m c t (a y) y) :
    (∀ y, (outsAt0 m c t.val t.isLt).2.2.2.2 y ≤ z) ↔ (∀ y, a y ≤ z) ∧ ∀ r e, mag (res m c t (ix2 r e)) ≤ z := by
  have hl := fun b => laneMax_le (R := 128) (n := 16) (C := 2048) (g := 16) rfl (by decide) rfl (band (res m c t) b) z
  simp only [h, taken, max_le_iff, lanes_le, forall_and, ← bands_le, hl, each, and_assoc]

theorem sweep_le (c : Dev nD) (n : ℕ) (hn : n < cfg0.N) (z : EReal) :
    (∀ y, (outsAt0 m c n hn).2.2.2.2 y ≤ z) ↔ 0 ≤ z ∧ ∀ k ≤ n, ∀ (h : k < cfg0.N) r e, mag (res m c ⟨k, h⟩ (ix2 r e)) ≤ z := by
  refine running_le (fun n hn y => (outsAt0 m c n hn).2.2.2.2 y) (fun k z => ∀ (h : k < cfg0.N) r e, mag (res m c ⟨k, h⟩ (ix2 r e)) ≤ z)
    (fun h z => ?_) (fun n h z => ?_) n hn z
  · refine (acc_le m c ⟨0, h⟩ (fun _ => 0) z (accAt_zero m c ⟨0, h⟩ rfl (by show ¬ 0 % 42 = 41; decide))).trans ?_
    exact and_congr ⟨fun h => h (ix2 0 0), fun h _ => h⟩ ⟨fun h _ => h, fun h' => h' h⟩
  · have hlt : n + 1 < 42 := h
    refine (acc_le m c ⟨n + 1, h⟩ _ z (accAt_succ m c ⟨n + 1, h⟩ (by show ¬ (n + 1) % 42 = 0; omega))).trans ?_
    exact and_congr Iff.rfl ⟨fun h _ => h, fun h' => h' h⟩

/-- The last point leaves the array's. -/
theorem closing_eq (c : Dev nD) (n : ℕ) (hn : n < cfg0.N) (h : n = 41) :
    (closing fun y => (outsAt0 m c n hn).2.2.2.2 y) = amax fun r e => whole m c (ix2 r e) := by
  subst h
  refine eq_amax fun z => ?_
  rw [closing_le, sweep_le, ← nonneg_and_iff _ _ (by decide) (by decide),
    ← blocks_le (R := 512) (N := 42) (M := 21504) rfl (fun r e => whole m c (ix2 r e)) z (by decide) (by decide)]
  refine and_congr_right fun _ => forall_congr' fun k => forall_congr' fun _ => forall_congr' fun h => forall_congr' fun r => forall_congr' fun e => ?_
  rw [res_eq]

/-! ## The result arrays -/

theorem final6 (c : Dev nD) : (dats m 0 c).arrAt 6 (cfgs 0).N
    = Spec.Oproj.codes (m ((c : Thread nD τ).loc main_arg0)) (m ((c : Thread nD τ).loc main_arg1)) := by
  refine (dats m 0 c).arrAt_eq_of_covers 6 _ (by decide +kernel) fun t _ y => ?_
  blk_simp
  rw [after0_6, codesAt]
  pointwise [Spec.Oproj.codes, code]
  blk_point [iblk, V, idx t]

set_option maxHeartbeats 1600000 in
theorem final7 (c : Dev nD) : (dats m 0 c).arrAt 7 (cfgs 0).N
    = Spec.Oproj.hAttn (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t _ y => ?_
  blk_simp
  rw [after0_7, hAt]
  pointwise [raw, rows, Spec.Oproj.hAttn, Spec.Oproj.proj, dense, code]
  blk_point [iblk, V, idx t]

theorem final8 (c : Dev nD) : (dats m 0 c).arrAt 8 (cfgs 0).N = whole m c := by
  refine (dats m 0 c).arrAt_eq_of_covers 8 _ (by decide +kernel) fun t _ y => ?_
  have hlt : t.val < 42 := t.isLt
  have hy : (y 0).val < 512 := (y 0).isLt
  blk_simp
  rw [after0_8, h1At]
  refine ((congrArg (res m c t) (ix2_eta y)).symm.trans (res_eq m c t (y 0) (y 1) (by omega))).trans ?_
  generalize whole m c = W
  blk_point [idx t]

theorem final9 (c : Dev nD) : (dats m 0 c).arrAt 9 (cfgs 0).N
    = Spec.Oproj.scale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t ht y => ?_
  have h1 : t.val % 42 = 41 := (by decide +kernel : ∀ t : Fin grid0.N, (cfg0.win 9).flush t = true → t.val % 42 = 41) t ht
  have hlt : t.val < 42 := t.isLt
  blk_simp
  rw [after0_9, scaleAt m c t h1, closing_eq m c t.val t.isLt (by omega)]
  unfold Spec.Oproj.scale
  exact rfl

end Cert.OprojIdeal.Block
-- ==== Proof.OprojRef.lean ====
/- The output projection's reference, read after its run: its one grid point stores whole arrays. -/
module

public import proofs.«01_k».proof.Proof.Gen.OprojRefIdeal.Value
public import Idealize.ShloMosaic.Lib.Pipeline.ReadBack
public import proofs.«01_k».proof.Proof.OprojSpec

@[expose] public section

set_option maxRecDepth 16384

noncomputable section

open Idealize.ShloMosaic Idealize.ShloMosaic.TcCoe Idealize.SL.Sem
open Idealize.ShloMosaic.Pipeline (Dat)

namespace Cert.OprojRefIdeal.Value

open Cert.OprojRefIdeal Cert.OprojRefIdeal.Gen Cert.Spec

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0] ∧ win0_5.index t = ![0, 0] ∧ win0_6.index t = ![0, 0, 0] ∧ win0_7.index t = ![0, 0] ∧ win0_8.index t = ![0, 0]
    ∧ win0_9.index t = ![0, 0] :=
  (by decide +kernel : ∀ t : Fin grid0.N, _)

theorem final6 (c : Dev nD) : (dats m 0 c).arrAt 6 (cfgs 0).N
    = Spec.Oproj.codes (m ((c : Thread nD τ).loc main_arg0)) (m ((c : Thread nD τ).loc main_arg1)) := by
  refine (dats m 0 c).arrAt_eq_of_covers 6 _ (by decide +kernel) fun t _ y => ?_
  blk_simp
  rw [after0_6]; unfold Gen.outsAt0; frame_out; simp only [read_unread_whole]
  pointwise [k0_pay5, k0_pay2, Spec.Oproj.codes, code]
  blk_point [iblk, V, idx t]

theorem final7 (c : Dev nD) : (dats m 0 c).arrAt 7 (cfgs 0).N
    = Spec.Oproj.hAttn (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t _ y => ?_
  blk_simp
  rw [after0_7]; unfold Gen.outsAt0; frame_out; simp only [read_unread_whole]
  pointwise [k0_pay6, k0_pay3, k0_pay2, Spec.Oproj.hAttn, Spec.Oproj.proj, dense, code]
  blk_point [iblk, V, idx t]

theorem final8 (c : Dev nD) : (dats m 0 c).arrAt 8 (cfgs 0).N
    = Spec.Oproj.h1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]; unfold Gen.outsAt0; frame_out; simp only [read_unread_whole]
  pointwise [k0_pay4, k0_pay3, k0_pay2, Spec.Oproj.h1, normed, meanSq, Spec.Oproj.proj, dense, code]
  blk_point [iblk, V, idx t]

/-- The stored scale is of the greatest magnitude of the array it is computed from. -/
theorem scale_pay (v : FVec Ideal S21504x2048 .f32) (y : S8x128.Idx) :
    k0_pay1 (F := Ideal) v y = scaleOf (amax fun r e => v (ix2 r e)) := by
  pointwise [k0_pay1, scaleOf, amax]

theorem final9 (c : Dev nD) : (dats m 0 c).arrAt 9 (cfgs 0).N
    = Spec.Oproj.scale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t _ y => ?_
  blk_simp
  rw [after0_9]; unfold Gen.outsAt0; frame_out; simp only [read_unread_whole]
  unfold Spec.Oproj.scale
  refine (scale_pay _ _).trans (congrArg (fun v => scaleOf (amax v)) (funext fun r => funext fun e => ?_))
  pointwise [k0_pay4, k0_pay3, k0_pay2, Spec.Oproj.h1, normed, meanSq, Spec.Oproj.proj, dense, code]
  blk_point [iblk, V, idx t]

end Cert.OprojRefIdeal.Value
-- ==== Proof.OprojClaim.lean ====
/- The output projection's value claim: the kernel's and the reference's result arrays are the same functions of
   the arguments. -/
module

public import proofs.«01_k».proof.Defs
public import proofs.«01_k».proof.Proof.OprojSweep
public import proofs.«01_k».proof.Proof.OprojRef

@[expose] public section

noncomputable section

open Idealize.ShloMosaic Idealize.ShloMosaic.TcCoe Idealize.SL.Sem

namespace Cert.Proof

theorem oproj : algebraic_OprojIdeal_OprojRefIdeal (hOprojIdeal := Cert.OprojIdeal.Gen.facts) (hOprojRefIdeal := Cert.OprojRefIdeal.Gen.facts) := by
  intro m g m' g' _ hagree
  refine ⟨fun c => Spec.Oproj.codes (m (c.tc.loc OprojIdeal.main_arg0)) (m (c.tc.loc OprojIdeal.main_arg1)),
    fun c => Spec.Oproj.hAttn (m (c.tc.loc OprojIdeal.main_arg0)) (m (c.tc.loc OprojIdeal.main_arg1)) (m (c.tc.loc OprojIdeal.main_arg3)) (m (c.tc.loc OprojIdeal.main_arg4)),
    fun c => Spec.Oproj.h1 (m (c.tc.loc OprojIdeal.main_arg0)) (m (c.tc.loc OprojIdeal.main_arg1)) (m (c.tc.loc OprojIdeal.main_arg2)) (m (c.tc.loc OprojIdeal.main_arg3)) (m (c.tc.loc OprojIdeal.main_arg4)) (m (c.tc.loc OprojIdeal.main_arg5)),
    fun c => Spec.Oproj.scale (m (c.tc.loc OprojIdeal.main_arg0)) (m (c.tc.loc OprojIdeal.main_arg1)) (m (c.tc.loc OprojIdeal.main_arg2)) (m (c.tc.loc OprojIdeal.main_arg3)) (m (c.tc.loc OprojIdeal.main_arg4)) (m (c.tc.loc OprojIdeal.main_arg5)),
    (θ_run Cert.OprojIdeal.defs _ _).mono (fun r h c => ?_) (Cert.OprojIdeal.Value.run_blocks m g),
    (θ_run Cert.OprojRefIdeal.defs _ _).mono (fun r h c => ?_) (Cert.OprojRefIdeal.Value.run_blocks m' g')⟩
  · obtain ⟨h0, h1, h2, h3, h⟩ := h c
    exact ⟨h0.trans (Cert.OprojIdeal.Block.final6 m c), h1.trans (Cert.OprojIdeal.Block.final7 m c), h2.trans (Cert.OprojIdeal.Block.final8 m c), h3.trans (Cert.OprojIdeal.Block.final9 m c), h⟩
  · obtain ⟨h0, h1, h2, h3, h⟩ := h c
    obtain ⟨a0, a1, a2, a3, a4, a5⟩ := hagree c
    refine ⟨h0.trans ?_, h1.trans ?_, h2.trans ?_, h3.trans ?_, h⟩
    · exact (Cert.OprojRefIdeal.Value.final6 m' c).trans (by rw [a0, a1])
    · exact (Cert.OprojRefIdeal.Value.final7 m' c).trans (by rw [a0, a1, a3, a4])
    · exact (Cert.OprojRefIdeal.Value.final8 m' c).trans (by rw [a0, a1, a2, a3, a4, a5])
    · exact (Cert.OprojRefIdeal.Value.final9 m' c).trans (by rw [a0, a1, a2, a3, a4, a5])

end Cert.Proof
-- ==== Proof.FfSpec.lean ====
/- The gate and up projections over the extended reals: the call's three results as functions of its arguments. -/
module

public import proofs.«01_k».proof.Proof.Amax

@[expose] public section

noncomputable section

open Idealize.ShloMosaic

namespace Cert.Spec.Ff

variable (x : FVec Ideal ⟨2, ![21504, 2048]⟩ .f32) (s : FVec Ideal ⟨2, ![8, 128]⟩ .f32)
  (w : FVec Ideal ⟨3, ![2048, 2, 8192]⟩ .fp8e4m3) (ws : FVec Ideal ⟨0, ![]⟩ .f32)

/-- The block input's codes. -/
def codes : FVec Ideal ⟨2, ![21504, 2048]⟩ .fp8e4m3 := fun i => code (s (ix2 0 0)) (x i)

/-- The gate (`n = 0`) or the up projection (`n = 1`), row `r`, column `e`. -/
def half (n : Fin 2) (r : Fin 21504) (e : Fin 8192) : EReal :=
  dense (s (ix2 0 0)) (ws ix0) (fun k => x (ix2 r k)) (fun k => w (ix3 k n e))

/-- The activation. -/
def act : FVec Ideal ⟨2, ![21504, 8192]⟩ .f32 := fun i =>
  half x s w ws 0 (i 0) (i 1) * Ideal.logistic (half x s w ws 0 (i 0) (i 1)) * half x s w ws 1 (i 0) (i 1)

/-- The activation's scale, in every entry. -/
def scale : FVec Ideal ⟨2, ![8, 128]⟩ .f32 := fun _ => scaleOf (amax fun r e => act x s w ws (ix2 r e))

end Cert.Spec.Ff
-- ==== Proof.FfBlock.lean ====
/- The gate and up projections' kernel, read after its run: a grid point stores its 256 rows of the codes and, in 32
   column tiles, of the activation, and takes their magnitudes into the running maximum the last point's scale is of. -/
module

public import proofs.«01_k».proof.Proof.Gen.FfIdeal.Value
public import Idealize.ShloMosaic.Lib.Pipeline.ReadBack
public import proofs.«01_k».proof.Proof.FfSpec

@[expose] public section

set_option maxRecDepth 16384

noncomputable section

open Idealize.ShloMosaic Idealize.ShloMosaic.TcCoe Idealize.SL.Sem
open Idealize.ShloMosaic.Pipeline (Dat)

namespace Cert.FfIdeal.Block

open Cert.FfIdeal Cert.FfIdeal.Gen Cert.FfIdeal.Value Cert.Spec

variable (m : (ℓ : Loc nD τ sig) → Buf (Elt Ideal) ℓ)

theorem idx : ∀ t : Fin cfg0.N, win0_0.index t = ![0] ∧ win0_1.index t = ![0, 0] ∧ win0_2.index t = ![t.val, 0] ∧ win0_3.index t = ![0, 0, 0]
    ∧ win0_4.index t = ![t.val, 0] ∧ win0_5.index t = ![t.val, 0] ∧ win0_6.index t = ![0, 0] :=
  (by decide +kernel : ∀ t : Fin grid0.N, _)

/-- The gate (`n = 0`) or up projection of a block of rows, over the blocks a point is given. -/
def half (ws : FVec Ideal S1 .f32) (s : FVec Ideal S8x128 .f32) (x : FVec Ideal S256x2048 .f32) (w : FVec Ideal S2x2048x8192 .fp8e4m3)
    (n : Fin 2) (i : S256x8192.Idx) : EReal :=
  dense (s (ix2 0 0)) (ws (ix1 0)) (fun k => x (ix2 (i 0) k)) (fun k => w (ix3 n k (i 1)))

/-- The activation of a block of rows. -/
def rows (ws : FVec Ideal S1 .f32) (s : FVec Ideal S8x128 .f32) (x : FVec Ideal S256x2048 .f32) (w : FVec Ideal S2x2048x8192 .fp8e4m3) :
    FVec Ideal S256x8192 .f32 := fun i =>
  half ws s x w 0 i * Ideal.logistic (half ws s x w 0 i) * half ws s x w 1 i

/-- Point `t`'s activation. -/
abbrev act (c : Dev nD) (t : Fin cfg0.N) : FVec Ideal S256x8192 .f32 :=
  rows (iblk m c 0 t) (iblk m c 1 t) (iblk m c 2 t) (iblk m c 3 t)

/-- The whole array's activation, of the arguments. -/
abbrev whole (c : Dev nD) : FVec Ideal ⟨2, ![21504, 8192]⟩ .f32 :=
  Spec.Ff.act (m ((c : Thread nD τ).loc main_arg0)) (m ((c : Thread nD τ).loc main_arg1)) (m ((c : Thread nD τ).loc main_arg2)) (m ((c : Thread nD τ).loc main_arg3))

/-- A point's rows are the array's. -/
theorem act_eq (c : Dev nD) (t : Fin cfg0.N) (r : Fin 256) (e : Fin 8192) (h) :
    act m c t (ix2 r e) = whole m c (ix2 ⟨256 * t.val + r.val, h⟩ e) := by
  pointwise [act, whole, rows, half, Spec.Ff.act, Spec.Ff.half, dense, code]
  blk_point [iblk, V, idx t]

/-! ## What a point leaves -/

theorem codesAt (c : Dev nD) (t : Fin cfg0.N) (y) : (outsAt0 m c t.val t.isLt).1 y = code (iblk m c 1 t (ix2 0 0)) (iblk m c 2 t y) := by
  by_cases h0 : t.val % 84 = 0
  · rw [outsAt0_A m c t h0 (by omega)]; frame_out; pointwise [k0_pay6, code]
  · by_cases h1 : t.val % 84 = 83
    · rw [outsAt0_C m c t h0 h1]; frame_out; pointwise [k0_pay6, code]
    · rw [outsAt0_B m c t h0 h1]; frame_out; pointwise [k0_pay6, code]

theorem actAt_A (c : Dev nD) (t : Fin cfg0.N) (h0 : t.val % 84 = 0) (h1 : ¬ t.val % 84 = 83) (y) :
    (outsAt0 m c t.val t.isLt).2.1 y = act m c t y := by
  rw [outsAt0_A m c t h0 h1]; frame_out
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, act, rows, half, dense, code]
    blk_point []

theorem actAt_B (c : Dev nD) (t : Fin cfg0.N) (h0 : ¬ t.val % 84 = 0) (h1 : ¬ t.val % 84 = 83) (y) :
    (outsAt0 m c t.val t.isLt).2.1 y = act m c t y := by
  rw [outsAt0_B m c t h0 h1]; frame_out
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, act, rows, half, dense, code]
    blk_point []

theorem actAt_C (c : Dev nD) (t : Fin cfg0.N) (h0 : ¬ t.val % 84 = 0) (h1 : t.val % 84 = 83) (y) :
    (outsAt0 m c t.val t.isLt).2.1 y = act m c t y := by
  rw [outsAt0_C m c t h0 h1]; frame_out
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, act, rows, half, dense, code]
    blk_point []

theorem actAt (c : Dev nD) (t : Fin cfg0.N) (y) : (outsAt0 m c t.val t.isLt).2.1 y = act m c t y := by
  by_cases h0 : t.val % 84 = 0
  · exact actAt_A m c t h0 (by omega) y
  · by_cases h1 : t.val % 84 = 83
    · exact actAt_C m c t h0 h1 y
    · exact actAt_B m c t h0 h1 y

/-! The running maximum a point leaves, over what it found. -/

theorem accAt_A (c : Dev nD) (t : Fin cfg0.N) (h0 : t.val % 84 = 0) (h1 : ¬ t.val % 84 = 83) (y) :
    (outsAt0 m c t.val t.isLt).2.2.2 y = chain (laneMax 32 rfl (by decide) (act m c t) y) 32
      0 := by
  rw [outsAt0_A m c t h0 h1]; frame_out
  simp only [chain, laneMax, mag]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, act, rows, half, dense, code]
  blk_point []

theorem accAt_B (c : Dev nD) (t : Fin cfg0.N) (h0 : ¬ t.val % 84 = 0) (h1 : ¬ t.val % 84 = 83) (y) :
    (outsAt0 m c t.val t.isLt).2.2.2 y = chain (laneMax 32 rfl (by decide) (act m c t) y) 32
      ((outsAt0 m c (t.val - 1) (Nat.lt_of_le_of_lt (Nat.sub_le _ _) t.isLt)).2.2.2 y) := by
  rw [outsAt0_B m c t h0 h1]; frame_out; simp only [read_unread_whole]
  simp only [chain, laneMax, mag]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, act, rows, half, dense, code]
  blk_point []

theorem accAt_C (c : Dev nD) (t : Fin cfg0.N) (h0 : ¬ t.val % 84 = 0) (h1 : t.val % 84 = 83) (y) :
    (outsAt0 m c t.val t.isLt).2.2.2 y = chain (laneMax 32 rfl (by decide) (act m c t) y) 32
      ((outsAt0 m c (t.val - 1) (Nat.lt_of_le_of_lt (Nat.sub_le _ _) t.isLt)).2.2.2 y) := by
  rw [outsAt0_C m c t h0 h1]; frame_out; simp only [read_unread_whole]
  simp only [chain, laneMax, mag]
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, act, rows, half, dense, code]
  blk_point []

theorem accAt_succ (c : Dev nD) (t : Fin cfg0.N) (h0 : ¬ t.val % 84 = 0) (y) :
    (outsAt0 m c t.val t.isLt).2.2.2 y = chain (laneMax 32 rfl (by decide) (act m c t) y) 32
      ((outsAt0 m c (t.val - 1) (Nat.lt_of_le_of_lt (Nat.sub_le _ _) t.isLt)).2.2.2 y) := by
  by_cases h1 : t.val % 84 = 83
  · exact accAt_C m c t h0 h1 y
  · exact accAt_B m c t h0 h1 y

/-- The last point's scale is of the running maximum it leaves. -/
theorem scaleAt (c : Dev nD) (t : Fin cfg0.N) (h1 : t.val % 84 = 83) (y) :
    (outsAt0 m c t.val t.isLt).2.2.1 y = scaleOf (closing fun y => (outsAt0 m c t.val t.isLt).2.2.2 y) := by
  rw [outsAt0_C m c t (by omega) h1]; frame_out
  rw [k0_pay3]
  pointwise [scaleOf, closing]

end Cert.FfIdeal.Block
-- ==== Proof.FfSweep.lean ====
/- The gate and up projections' kernel over its whole grid: the codes' and the activation's blocks put together, and the
   running maximum of the magnitudes, whose last value the scale is of. -/
module

public import proofs.«01_k».proof.Proof.FfBlock

@[expose] public section

set_option maxRecDepth 16384

noncomputable section

open Idealize.ShloMosaic Idealize.ShloMosaic.TcCoe Idealize.SL.Sem
open Idealize.ShloMosaic.Pipeline (Dat)

namespace Cert.FfIdeal.Block

open Cert.FfIdeal Cert.FfIdeal.Gen Cert.FfIdeal.Value Cert.Spec

variable (m : (ℓ : Loc nD τ sig) → Buf (Elt Ideal) ℓ)

/-! ## The running maximum -/

/-- A bound of what a point leaves of the running maximum, against a bound of what it found. -/
theorem acc_le (c : Dev nD) (t : Fin cfg0.N) (a : S8x128.Idx → EReal) (z : EReal)
    (h : ∀ y, (outsAt0 m c t.val t.isLt).2.2.2 y = chain (laneMax 32 rfl (by decide) (act m c t) y) 32 (a y)) :
    (∀ y, (outsAt0 m c t.val t.isLt).2.2.2 y ≤ z) ↔ (∀ y, a y ≤ z) ∧ ∀ r e, mag (act m c t (ix2 r e)) ≤ z := by
  simp only [h, chain_le, forall_and]
  refine and_congr_right fun _ => (laneMax_le (R := 256) (n := 32) (C := 8192) (g := 64) rfl (by decide) rfl (act m c t) z).trans ⟨fun h r e => h _, fun h i => ?_⟩
  exact le_of_eq_of_le (congrArg (fun j => mag (act m c t j)) (ix2_eta i).symm) (h (i 0) (i 1))

theorem sweep_le (c : Dev nD) (n : ℕ) (hn : n < cfg0.N) (z : EReal) :
    (∀ y, (outsAt0 m c n hn).2.2.2 y ≤ z) ↔ 0 ≤ z ∧ ∀ k ≤ n, ∀ (h : k < cfg0.N) r e, mag (act m c ⟨k, h⟩ (ix2 r e)) ≤ z := by
  refine running_le (fun n hn y => (outsAt0 m c n hn).2.2.2 y) (fun k z => ∀ (h : k < cfg0.N) r e, mag (act m c ⟨k, h⟩ (ix2 r e)) ≤ z)
    (fun h z => ?_) (fun n h z => ?_) n hn z
  · refine (acc_le m c ⟨0, h⟩ (fun _ => 0) z (accAt_A m c ⟨0, h⟩ rfl (by show ¬ 0 % 84 = 83; decide))).trans ?_
    exact and_congr ⟨fun h => h (ix2 0 0), fun h _ => h⟩ ⟨fun h _ => h, fun h' => h' h⟩
  · have hlt : n + 1 < 84 := h
    refine (acc_le m c ⟨n + 1, h⟩ _ z (accAt_succ m c ⟨n + 1, h⟩ (by show ¬ (n + 1) % 84 = 0; omega))).trans ?_
    exact and_congr Iff.rfl ⟨fun h _ => h, fun h' => h' h⟩

/-- The last point leaves the array's. -/
theorem closing_eq (c : Dev nD) (n : ℕ) (hn : n < cfg0.N) (h : n = 83) :
    (closing fun y => (outsAt0 m c n hn).2.2.2 y) = amax fun r e => whole m c (ix2 r e) := by
  subst h
  refine eq_amax fun z => ?_
  rw [closing_le, sweep_le, ← nonneg_and_iff _ _ (by decide) (by decide),
    ← blocks_le (R := 256) (N := 84) (M := 21504) rfl (fun r e => whole m c (ix2 r e)) z (by decide) (by decide)]
  refine and_congr_right fun _ => forall_congr' fun k => forall_congr' fun _ => forall_congr' fun h => forall_congr' fun r => forall_congr' fun e => ?_
  rw [act_eq]

/-! ## The result arrays -/

theorem final4 (c : Dev nD) : (dats m 0 c).arrAt 4 (cfgs 0).N
    = Spec.Ff.codes (m ((c : Thread nD τ).loc main_arg0)) (m ((c : Thread nD τ).loc main_arg1)) := by
  refine (dats m 0 c).arrAt_eq_of_covers 4 _ (by decide +kernel) fun t _ y => ?_
  blk_simp
  rw [after0_4, codesAt]
  pointwise [Spec.Ff.codes, code]
  blk_point [iblk, V, idx t]

theorem final5 (c : Dev nD) : (dats m 0 c).arrAt 5 (cfgs 0).N = whole m c := by
  refine (dats m 0 c).arrAt_eq_of_covers 5 _ (by decide +kernel) fun t _ y => ?_
  blk_simp
  rw [after0_5, actAt]
  pointwise [act, whole, rows, half, Spec.Ff.act, Spec.Ff.half, dense, code]
  blk_point [iblk, V, idx t]

theorem final6 (c : Dev nD) : (dats m 0 c).arrAt 6 (cfgs 0).N
    = Spec.Ff.scale (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t ht y => ?_
  have h1 : t.val % 84 = 83 := (by decide +kernel : ∀ t : Fin grid0.N, (cfg0.win 6).flush t = true → t.val % 84 = 83) t ht
  have hlt : t.val < 84 := t.isLt
  blk_simp
  rw [after0_6, scaleAt m c t h1, closing_eq m c t.val t.isLt (by omega)]
  unfold Spec.Ff.scale
  exact rfl

end Cert.FfIdeal.Block
-- ==== Proof.FfRef.lean ====
/- The gate and up projections' reference, read after its run: its one grid point stores whole arrays. -/
module

public import proofs.«01_k».proof.Proof.Gen.FfRefIdeal.Value
public import Idealize.ShloMosaic.Lib.Pipeline.ReadBack
public import proofs.«01_k».proof.Proof.FfSpec

@[expose] public section

set_option maxRecDepth 16384

noncomputable section

open Idealize.ShloMosaic Idealize.ShloMosaic.TcCoe Idealize.SL.Sem
open Idealize.ShloMosaic.Pipeline (Dat)

namespace Cert.FfRefIdeal.Value

open Cert.FfRefIdeal Cert.FfRefIdeal.Gen Cert.Spec

variable (m : (ℓ : Loc nD τ sig) → Buf (Elt Ideal) ℓ)

theorem idx : ∀ t : Fin cfg0.N, win0_0.index t = ![0, 0] ∧ win0_1.index t = ![0, 0] ∧ win0_2.index t = ![0, 0, 0] ∧ win0_3.index t = ![0]
    ∧ win0_4.index t = ![0, 0] ∧ win0_5.index t = ![0, 0] ∧ win0_6.index t = ![0, 0] :=
  (by decide +kernel : ∀ t : Fin grid0.N, _)

theorem final4 (c : Dev nD) : (dats m 0 c).arrAt 4 (cfgs 0).N
    = Spec.Ff.codes (m ((c : Thread nD τ).loc main_arg0)) (m ((c : Thread nD τ).loc main_arg1)) := by
  refine (dats m 0 c).arrAt_eq_of_covers 4 _ (by decide +kernel) fun t _ y => ?_
  blk_simp
  rw [after0_4]; unfold Gen.outsAt0; frame_out; simp only [read_unread_whole]
  pointwise [k0_pay2, Spec.Ff.codes, code]
  blk_point [iblk, V, idx t]

theorem final5 (c : Dev nD) : (dats m 0 c).arrAt 5 (cfgs 0).N
    = Spec.Ff.act (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; unfold Gen.outsAt0; frame_out; simp only [read_unread_whole]
  pointwise [k0_pay3, k0_pay2, Spec.Ff.act, Spec.Ff.half, dense, code]
  blk_point [iblk, V, idx t]

/-- The stored scale is of the greatest magnitude of the stored activation. -/
theorem scale_pay (v0 : Vec Ideal S1x1 .f32) (v1 : Vec Ideal S21504x2048 .f32) (v9 : Vec Ideal S2048x1x8192 .fp8e4m3) (v12 : Elt Ideal .f32)
    (v17 : Vec Ideal S2048x1x8192 .fp8e4m3) (v20 : Elt Ideal .f32) (y : S8x128.Idx) :
    k0_pay1 (F := Ideal) (k0_pay4 v0 v1 v9 v12 v17 v20) (Scalar.cmpf .oeq (k0_pay4 v0 v1 v9 v12 v17 v20) (Scalar.ofBits .f32 0x00000000#32)) y
      = scaleOf (amax fun r e => k0_pay3 v0 v1 v9 v12 v17 v20 (ix2 r e)) := by
  pointwise [k0_pay1, k0_pay4, scaleOf, amax]

theorem final6 (c : Dev nD) : (dats m 0 c).arrAt 6 (cfgs 0).N
    = Spec.Ff.scale (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; unfold Gen.outsAt0; frame_out; simp only [read_unread_whole]
  unfold Spec.Ff.scale
  refine (scale_pay _ _ _ _ _ _ _).trans (congrArg (fun v => scaleOf (amax v)) (funext fun r => funext fun e => ?_))
  pointwise [k0_pay3, k0_pay2, Spec.Ff.act, Spec.Ff.half, dense, code]
  blk_point [iblk, V, idx t]

end Cert.FfRefIdeal.Value
-- ==== Proof.FfClaim.lean ====
/- The gate and up projections' value claim: the kernel's and the reference's result arrays are the same functions of
   the arguments. -/
module

public import proofs.«01_k».proof.Defs
public import proofs.«01_k».proof.Proof.FfSweep
public import proofs.«01_k».proof.Proof.FfRef

@[expose] public section

noncomputable section

open Idealize.ShloMosaic Idealize.ShloMosaic.TcCoe Idealize.SL.Sem

namespace Cert.Proof

theorem ff : algebraic_FfIdeal_FfRefIdeal (hFfIdeal := Cert.FfIdeal.Gen.facts) (hFfRefIdeal := Cert.FfRefIdeal.Gen.facts) := by
  intro m g m' g' _ hagree
  refine ⟨fun c => Spec.Ff.codes (m (c.tc.loc FfIdeal.main_arg0)) (m (c.tc.loc FfIdeal.main_arg1)),
    fun c => Spec.Ff.act (m (c.tc.loc FfIdeal.main_arg0)) (m (c.tc.loc FfIdeal.main_arg1)) (m (c.tc.loc FfIdeal.main_arg2)) (m (c.tc.loc FfIdeal.main_arg3)),
    fun c => Spec.Ff.scale (m (c.tc.loc FfIdeal.main_arg0)) (m (c.tc.loc FfIdeal.main_arg1)) (m (c.tc.loc FfIdeal.main_arg2)) (m (c.tc.loc FfIdeal.main_arg3)),
    (θ_run Cert.FfIdeal.defs _ _).mono (fun r h c => ?_) (Cert.FfIdeal.Value.run_blocks m g),
    (θ_run Cert.FfRefIdeal.defs _ _).mono (fun r h c => ?_) (Cert.FfRefIdeal.Value.run_blocks m' g')⟩
  · obtain ⟨h0, h1, h2, h⟩ := h c
    exact ⟨h0.trans (Cert.FfIdeal.Block.final4 m c), h1.trans (Cert.FfIdeal.Block.final5 m c), h2.trans (Cert.FfIdeal.Block.final6 m c), h⟩
  · obtain ⟨h0, h1, h2, h⟩ := h c
    obtain ⟨a0, a1, a2, a3⟩ := hagree c
    refine ⟨h0.trans ?_, h1.trans ?_, h2.trans ?_, h⟩
    · exact (Cert.FfRefIdeal.Value.final4 m' c).trans (by rw [a0, a1])
    · exact (Cert.FfRefIdeal.Value.final5 m' c).trans (by rw [a0, a1, a2, a3])
    · exact (Cert.FfRefIdeal.Value.final6 m' c).trans (by rw [a0, a1, a2, a3])

end Cert.Proof
-- ==== Proof.DownSpec.lean ====
/- The down projection over the extended reals: its three results as functions of its arguments. -/
module

public import proofs.«01_k».proof.Proof.Spec

@[expose] public section

noncomputable section

open Idealize.ShloMosaic

namespace Cert.Spec.Down

variable (x : FVec Ideal ⟨2, ![21504, 8192]⟩ .f32) (s : FVec Ideal ⟨2, ![8, 128]⟩ .f32) (h : FVec Ideal ⟨2, ![21504, 2048]⟩ .f32)
  (w : FVec Ideal ⟨2, ![8192, 2048]⟩ .fp8e4m3) (ws : FVec Ideal ⟨0, ![]⟩ .f32) (g : FVec Ideal ⟨1, ![2048]⟩ .f32)

/-- The activation's codes. -/
def codes : FVec Ideal ⟨2, ![21504, 8192]⟩ .fp8e4m3 := fun i => code (s (ix2 0 0)) (x i)

/-- The projection, row `r`, column `e`. -/
def proj (r : Fin 21504) (e : Fin 2048) : EReal :=
  dense (s (ix2 0 0)) (ws ix0) (fun k => x (ix2 r k)) (fun k => w (ix2 k e))

/-- The projection as it is returned. -/
def down : FVec Ideal ⟨2, ![21504, 2048]⟩ .bf16 := fun i => proj x s w ws (i 0) (i 1)

/-- The residual stream after the block. -/
def out : FVec Ideal ⟨2, ![21504, 2048]⟩ .bf16 := fun i =>
  h (ix2 (i 0) (i 1)) + normed (Ideal.ofBits .f32 0x45000000#32) (proj x s w ws (i 0)) (g (ix1 (i 1))) (i 1)

end Cert.Spec.Down
-- ==== Proof.DownBlock.lean ====
/- The down projection's kernel, read after its run: a grid point stores its 256 rows of each result, computed in four
   column tiles and two row bands; put together they are the whole arrays' functions. -/
module

public import proofs.«01_k».proof.Proof.Gen.DownIdeal.Value
public import proofs.«01_k».proof.Proof.DownSpec

@[expose] public section

set_option maxRecDepth 16384

noncomputable section

open Idealize.ShloMosaic Idealize.ShloMosaic.TcCoe Idealize.SL.Sem
open Idealize.ShloMosaic.Pipeline (Dat)

namespace Cert.DownIdeal.Value

open Cert.DownIdeal Cert.DownIdeal.Gen Cert.Spec

variable (m : (ℓ : Loc nD τ sig) → Buf (Elt Ideal) ℓ)

theorem idx : ∀ t : Fin cfg0.N, win0_0.index t = ![0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![t.val, 0] :=
  (by decide +kernel : ∀ t : Fin grid0.N, _)

/-- The projection of a block of rows, over the blocks a point is given. -/
def rows (ws : FVec Ideal S1 .f32) (s : FVec Ideal S8x128 .f32) (x : FVec Ideal S256x8192 .f32) (w : FVec Ideal S8192x2048 .fp8e4m3) :
    FVec Ideal S256x2048 .f32 := fun i =>
  dense (s (ix2 0 0)) (ws (ix1 0)) (fun k => x (ix2 (i 0) k)) (fun k => w (ix2 k (i 1)))

theorem final6 (c : Dev nD) : (dats m 0 c).arrAt 6 (cfgs 0).N
    = Spec.Down.codes (m ((c : Thread nD τ).loc main_arg0)) (m ((c : Thread nD τ).loc main_arg1)) := by
  refine (dats m 0 c).arrAt_eq_of_covers 6 _ (by decide +kernel) fun t _ y => ?_
  blk_simp
  rw [after0_6]; unfold Gen.outsAt0; frame_out
  pointwise [k0_pay5, Spec.Down.codes, code]
  blk_point [iblk, V, idx t]

theorem final7 (c : Dev nD) : (dats m 0 c).arrAt 7 (cfgs 0).N
    = Spec.Down.down (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t _ y => ?_
  blk_simp
  rw [after0_7]; unfold Gen.outsAt0; frame_out
  canon_tiles x h
  all_goals
    rw [readCov_of (G := rows (iblk m c 0 t) (iblk m c 1 t) (iblk m c 2 t) (iblk m c 4 t))]
    · pointwise [k0_pay2, k0_pay10, rows, Spec.Down.down, Spec.Down.proj, dense, code]
      blk_point [iblk, V, idx t]
    · intro i
      canon_tiles z h
      all_goals
        pointwise [k0_pay4, k0_pay5, k0_pay6, k0_pay7, k0_pay8, k0_pay9, rows, dense, code]
        blk_point []

theorem final8 (c : Dev nD) : (dats m 0 c).arrAt 8 (cfgs 0).N
    = Spec.Down.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]; unfold Gen.outsAt0; frame_out
  canon_tiles x h
  all_goals
    rw [readCov_of (G := rows (iblk m c 0 t) (iblk m c 1 t) (iblk m c 2 t) (iblk m c 4 t))]
    · pointwise [k0_pay3, k0_pay1, k0_pay11, k0_pay12, rows, Spec.Down.out, Spec.Down.proj, normed, meanSq, dense, code]
      rw [mul_rsqrt_meanSq]
      blk_point [iblk, V, idx t]
    · intro i
      canon_tiles z h
      all_goals
        pointwise [k0_pay4, k0_pay5, k0_pay6, k0_pay7, k0_pay8, k0_pay9, rows, dense, code]
        blk_point []

end Cert.DownIdeal.Value
-- ==== Proof.DownRef.lean ====
/- The down projection's reference, read after its run: its one grid point stores whole arrays, so each result is
   the stored payload over the argument arrays. -/
module

public import proofs.«01_k».proof.Proof.Gen.DownRefIdeal.Value
public import Idealize.ShloMosaic.Lib.Pipeline.ReadBack
public import proofs.«01_k».proof.Proof.DownSpec

@[expose] public section

set_option maxRecDepth 16384

noncomputable section

open Idealize.ShloMosaic Idealize.ShloMosaic.TcCoe Idealize.SL.Sem
open Idealize.ShloMosaic.Pipeline (Dat)

namespace Cert.DownRefIdeal.Value

open Cert.DownRefIdeal Cert.DownRefIdeal.Gen Cert.Spec

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0]
    ∧ win0_4.index t = ![0] ∧ win0_5.index t = ![0, 0] ∧ win0_6.index t = ![0, 0] ∧ win0_7.index t = ![0, 0] ∧ win0_8.index t = ![0, 0] :=
  (by decide +kernel : ∀ t : Fin grid0.N, _)

theorem final6 (c : Dev nD) : (dats m 0 c).arrAt 6 (cfgs 0).N
    = Spec.Down.codes (m ((c : Thread nD τ).loc main_arg0)) (m ((c : Thread nD τ).loc main_arg1)) := by
  refine (dats m 0 c).arrAt_eq_of_covers 6 _ (by decide +kernel) fun t _ y => ?_
  blk_simp
  rw [after0_6]; unfold Gen.outsAt0; frame_out; simp only [read_unread_whole]
  pointwise [k0_pay1, Spec.Down.codes, code]
  blk_point [iblk, V, idx t]

theorem final7 (c : Dev nD) : (dats m 0 c).arrAt 7 (cfgs 0).N
    = Spec.Down.down (m ((c : Thread nD τ).loc main_arg0)) (m ((c : Thread nD τ).loc main_arg1)) (m ((c : Thread nD τ).loc main_arg3)) (m ((c : Thread nD τ).loc main_arg4)) := by
  refine (dats m 0 c).arrAt_eq_of_covers 7 _ (by decide +kernel) fun t _ y => ?_
  blk_simp
  rw [after0_7]; unfold Gen.outsAt0; frame_out; simp only [read_unread_whole]
  pointwise [k0_pay3, k0_pay2, k0_pay1, Spec.Down.down, Spec.Down.proj, dense, code]
  blk_point [iblk, V, idx t]

theorem final8 (c : Dev nD) : (dats m 0 c).arrAt 8 (cfgs 0).N
    = Spec.Down.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]; unfold Gen.outsAt0; frame_out; simp only [read_unread_whole]
  pointwise [k0_pay4, k0_pay3, k0_pay2, k0_pay1, Spec.Down.out, normed, meanSq, Spec.Down.proj, dense, code]
  blk_point [iblk, V, idx t]

end Cert.DownRefIdeal.Value
-- ==== Proof.DownClaim.lean ====
/- The down projection's value claim: the kernel's and the reference's result arrays are the same functions of the
   arguments. -/
module

public import proofs.«01_k».proof.Defs
public import proofs.«01_k».proof.Proof.DownBlock
public import proofs.«01_k».proof.Proof.DownRef

@[expose] public section

noncomputable section

open Idealize.ShloMosaic Idealize.ShloMosaic.TcCoe Idealize.SL.Sem

namespace Cert.Proof

theorem down : algebraic_DownIdeal_DownRefIdeal (hDownIdeal := Cert.DownIdeal.Gen.facts) (hDownRefIdeal := Cert.DownRefIdeal.Gen.facts) := by
  intro m g m' g' _ hagree
  refine ⟨fun c => Spec.Down.codes (m (c.tc.loc DownIdeal.main_arg0)) (m (c.tc.loc DownIdeal.main_arg1)),
    fun c => Spec.Down.down (m (c.tc.loc DownIdeal.main_arg0)) (m (c.tc.loc DownIdeal.main_arg1)) (m (c.tc.loc DownIdeal.main_arg3)) (m (c.tc.loc DownIdeal.main_arg4)),
    fun c => Spec.Down.out (m (c.tc.loc DownIdeal.main_arg0)) (m (c.tc.loc DownIdeal.main_arg1)) (m (c.tc.loc DownIdeal.main_arg2)) (m (c.tc.loc DownIdeal.main_arg3)) (m (c.tc.loc DownIdeal.main_arg4)) (m (c.tc.loc DownIdeal.main_arg5)),
    (θ_run Cert.DownIdeal.defs _ _).mono (fun r h c => ?_) (Cert.DownIdeal.Value.run_blocks m g),
    (θ_run Cert.DownRefIdeal.defs _ _).mono (fun r h c => ?_) (Cert.DownRefIdeal.Value.run_blocks m' g')⟩
  · obtain ⟨h0, h1, h2, h⟩ := h c
    exact ⟨h0.trans (Cert.DownIdeal.Value.final6 m c), h1.trans (Cert.DownIdeal.Value.final7 m c), h2.trans (Cert.DownIdeal.Value.final8 m c), h⟩
  · obtain ⟨h0, h1, h2, h⟩ := h c
    obtain ⟨a0, a1, a2, a3, a4, a5⟩ := hagree c
    refine ⟨h0.trans ?_, h1.trans ?_, h2.trans ?_, h⟩
    · exact (Cert.DownRefIdeal.Value.final6 m' c).trans (by rw [a0, a1])
    · exact (Cert.DownRefIdeal.Value.final7 m' c).trans (by rw [a0, a1, a3, a4])
    · exact (Cert.DownRefIdeal.Value.final8 m' c).trans (by rw [a0, a1, a2, a3, a4, a5])

end Cert.Proof
-- ==== Proof.lean ====
/- The assembly of the certificate. -/
module

public import proofs.«01_k».proof.Defs
public import proofs.«01_k».proof.Proof.Gen.Amax.Frame
public import proofs.«01_k».proof.Proof.Gen.AmaxIdeal.Frame
public import proofs.«01_k».proof.Proof.Gen.AmaxRefIdeal.Run
public import proofs.«01_k».proof.Proof.Gen.Oproj.Frame
public import proofs.«01_k».proof.Proof.Gen.OprojIdeal.Frame
public import proofs.«01_k».proof.Proof.Gen.OprojRefIdeal.Frame
public import proofs.«01_k».proof.Proof.Gen.Ff.Frame
public import proofs.«01_k».proof.Proof.Gen.FfIdeal.Frame
public import proofs.«01_k».proof.Proof.Gen.FfRefIdeal.Frame
public import proofs.«01_k».proof.Proof.Gen.Down.Frame
public import proofs.«01_k».proof.Proof.Gen.DownIdeal.Frame
public import proofs.«01_k».proof.Proof.Gen.DownRefIdeal.Frame
public import proofs.«01_k».proof.Proof.Gen.AmaxIdeal.Value
public import proofs.«01_k».proof.Proof.Gen.OprojIdeal.Value
public import proofs.«01_k».proof.Proof.Gen.OprojRefIdeal.Value
public import proofs.«01_k».proof.Proof.AmaxClaim
public import proofs.«01_k».proof.Proof.OprojClaim
public import proofs.«01_k».proof.Proof.FfClaim
public import proofs.«01_k».proof.Proof.DownClaim
public import Idealize.ShloMosaic.Adequacy
public import Idealize.ShloMosaic.Init

@[expose] public section

noncomputable section

namespace Cert.Proof

open Idealize.ShloMosaic Idealize.SL.Sem

theorem claim : Cert.Claim := ⟨Cert.Amax.Gen.facts, Cert.AmaxIdeal.Gen.facts, Cert.AmaxRefIdeal.Gen.facts, Cert.Oproj.Gen.facts, Cert.OprojIdeal.Gen.facts, Cert.OprojRefIdeal.Gen.facts, Cert.Ff.Gen.facts, Cert.FfIdeal.Gen.facts, Cert.FfRefIdeal.Gen.facts, Cert.Down.Gen.facts, Cert.DownIdeal.Gen.facts, Cert.DownRefIdeal.Gen.facts,
  fun m ρ _ => Cert.Amax.Gen.frame m ρ,
  fun m ρ _ => Cert.AmaxIdeal.Gen.frame m ρ,
  amaxRef_frame,
  fun m ρ _ => Cert.Oproj.Gen.frame m ρ,
  fun m ρ _ => Cert.OprojIdeal.Gen.frame m ρ,
  fun m ρ _ => Cert.OprojRefIdeal.Gen.frame m ρ,
  fun m ρ _ => Cert.Ff.Gen.frame m ρ,
  fun m ρ _ => Cert.FfIdeal.Gen.frame m ρ,
  fun m ρ _ => Cert.FfRefIdeal.Gen.frame m ρ,
  fun m ρ _ => Cert.Down.Gen.frame m ρ,
  fun m ρ _ => Cert.DownIdeal.Gen.frame m ρ,
  fun m ρ _ => Cert.DownRefIdeal.Gen.frame m ρ,
  trivial, amax,
  trivial, oproj,
  trivial, ff,
  trivial, down⟩

end Cert.Proof
